-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v44_0)) (v1 : (c : Dev Cert.KernelIdeal.nD) → Buf (Elt Ideal) ((c.tc : Thread Cert.KernelIdeal.nD Cert.KernelIdeal.τ).loc Cert.KernelIdeal.main_v44_1)) (v2 : (c : Dev Cert.KernelIdeal.nD) → Buf (Elt Ideal) ((c.tc : Thread Cert.KernelIdeal.nD Cert.KernelIdeal.τ).loc Cert.KernelIdeal.main_v44_2)) (v3 : (c : Dev Cert.KernelIdeal.nD) → Buf (Elt Ideal) ((c.tc : Thread Cert.KernelIdeal.nD Cert.KernelIdeal.τ).loc Cert.KernelIdeal.main_v44_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v44_0) = v0 c
          ∧ r.2.mem ((c.tc : Thread Cert.KernelIdeal.nD Cert.KernelIdeal.τ).loc Cert.KernelIdeal.main_v44_1) = v1 c
          ∧ r.2.mem ((c.tc : Thread Cert.KernelIdeal.nD Cert.KernelIdeal.τ).loc Cert.KernelIdeal.main_v44_2) = v2 c
          ∧ r.2.mem ((c.tc : Thread Cert.KernelIdeal.nD Cert.KernelIdeal.τ).loc Cert.KernelIdeal.main_v44_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v140) = v0 c
          ∧ r.2.mem ((c.tc : Thread Cert.ReferenceIdeal.nD Cert.ReferenceIdeal.τ).loc Cert.ReferenceIdeal.main_v131) = v1 c
          ∧ r.2.mem ((c.tc : Thread Cert.ReferenceIdeal.nD Cert.ReferenceIdeal.τ).loc Cert.ReferenceIdeal.main_v141) = v2 c
          ∧ r.2.mem ((c.tc : Thread Cert.ReferenceIdeal.nD Cert.ReferenceIdeal.τ).loc Cert.ReferenceIdeal.main_v142) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S4x512x1536 : Shape := ⟨3, ![4, 512, 1536]⟩
abbrev S4x512 : Shape := ⟨2, ![4, 512]⟩
abbrev S4x512x2x128 : Shape := ⟨4, ![4, 512, 2, 128]⟩
abbrev S4x512x2 : Shape := ⟨3, ![4, 512, 2]⟩
abbrev S_ : Shape := ⟨0, ![]⟩

class Facts : Prop where
  bitsLt_bf16_f32 : FTy.bits .bf16 < FTy.bits .f32
  bcast_S_S4x512x1536 : S_.BroadcastsInDim S4x512x1536 (![] : Fin 0 → Fin S4x512x1536.rank)

variable [Facts]

def fn {F : FTy → Type} [FloatOps F] (main_arg0 : FVec F S4x512x1536 .bf16) (main_arg1 : IVec S4x512 32) (main_arg2 : FVec F S4x512x2x128 .fp8e4m3) (main_arg3 : FVec F S4x512x2 .f32) (main_arg4 : FVec F S4x512x2x128 .fp8e4m3) (main_arg5 : FVec F S4x512x2 .f32) : IVec S4x512x1536 1 :=
  let main_v0 : FVec F S4x512x1536 .f32 := (extf .f32 · bitsLt_bf16_f32) main_arg0
  let main_v1 : FVec F S4x512x1536 .f32 := Host.absf main_v0
  let main_cst : FVec F S_ .f32 := constant S_ .f32 0x7F7F0000#32
  let main_v2 : FVec F S4x512x1536 .f32 := broadcastInDim S4x512x1536 ![] bcast_S_S4x512x1536 main_cst
  let main_v3 : IVec S4x512x1536 1 := cmpf .ole main_v1 main_v2
  main_v3
-- ==== Kernel.lean ====
abbrev S4x512x1536 : Shape := ⟨3, ![4, 512, 1536]⟩
abbrev S4x512 : Shape := ⟨2, ![4, 512]⟩
abbrev S4x512x2x128 : Shape := ⟨4, ![4, 512, 2, 128]⟩
abbrev S4x512x2 : Shape := ⟨3, ![4, 512, 2]⟩
abbrev S512 : Shape := ⟨1, ![512]⟩
abbrev S1x512 : Shape := ⟨2, ![1, 512]⟩
abbrev S_ : Shape := ⟨0, ![]⟩
abbrev S1x4x512 : Shape := ⟨3, ![1, 4, 512]⟩
abbrev S3x4x512 : Shape := ⟨3, ![3, 4, 512]⟩
abbrev S64 : Shape := ⟨1, ![64]⟩
abbrev S3x4x512x1 : Shape := ⟨4, ![3, 4, 512, 1]⟩
abbrev S1x1x1x64 : Shape := ⟨4, ![1, 1, 1, 64]⟩
abbrev S3x4x512x64 : Shape := ⟨4, ![3, 4, 512, 64]⟩
abbrev S3x4x512x128 : Shape := ⟨4, ![3, 4, 512, 128]⟩
abbrev S4x1x512 : Shape := ⟨3, ![4, 1, 512]⟩
abbrev S4x2x512 : Shape := ⟨3, ![4, 2, 512]⟩
abbrev S4x2x512x128 : Shape := ⟨4, ![4, 2, 512, 128]⟩
abbrev S3x4x512x12 : Shape := ⟨4, ![3, 4, 512, 12]⟩
abbrev S3x4x512x1536 : Shape := ⟨4, ![3, 4, 512, 1536]⟩
abbrev S1x128x1536 : Shape := ⟨3, ![1, 128, 1536]⟩
abbrev S3x1x128x128 : Shape := ⟨4, ![3, 1, 128, 128]⟩
abbrev S1x128x2 : Shape := ⟨3, ![1, 128, 2]⟩
abbrev S1x2x512 : Shape := ⟨3, ![1, 2, 512]⟩
abbrev S1x2x512x128 : Shape := ⟨4, ![1, 2, 512, 128]⟩
abbrev S3x1x128x12 : Shape := ⟨4, ![3, 1, 128, 12]⟩
abbrev S3x1x128x1536 : Shape := ⟨4, ![3, 1, 128, 1536]⟩
abbrev S1x128x1 : Shape := ⟨3, ![1, 128, 1]⟩
abbrev S128x1 : Shape := ⟨2, ![128, 1]⟩
abbrev S1x1x512 : Shape := ⟨3, ![1, 1, 512]⟩
abbrev S128x512 : Shape := ⟨2, ![128, 512]⟩
abbrev S128x256 : Shape := ⟨2, ![128, 256]⟩
abbrev S1x128x128 : Shape := ⟨3, ![1, 128, 128]⟩
abbrev S128x128 : Shape := ⟨2, ![128, 128]⟩
abbrev S128x64 : Shape := ⟨2, ![128, 64]⟩
abbrev S1x1x128x128 : Shape := ⟨4, ![1, 1, 128, 128]⟩
abbrev S128 : Shape := ⟨1, ![128]⟩
abbrev S1x1x128x1 : Shape := ⟨4, ![1, 1, 128, 1]⟩
abbrev S1x1x512x128 : Shape := ⟨4, ![1, 1, 512, 128]⟩
abbrev S512x128 : Shape := ⟨2, ![512, 128]⟩

abbrev nBuf : Space → Nat
  | .hbm => 100
  | .vmem => 26
  | .smem => 0
  | _ => 0

abbrev bufTy : (tb : Table) → Fin (tcTables nBuf tb) → BufTy
  | .hbm, ⟨0, _⟩ => ⟨S4x512x1536, .bf16⟩
  | .hbm, ⟨1, _⟩ => ⟨S4x512, .i32⟩
  | .hbm, ⟨2, _⟩ => ⟨S4x512x2x128, .fp8e4m3⟩
  | .hbm, ⟨3, _⟩ => ⟨S4x512x2, .f32⟩
  | .hbm, ⟨4, _⟩ => ⟨S4x512x2x128, .fp8e4m3⟩
  | .hbm, ⟨5, _⟩ => ⟨S4x512x2, .f32⟩
  | .hbm, ⟨6, _⟩ => ⟨S512, .i32⟩
  | .hbm, ⟨7, _⟩ => ⟨S1x512, .i32⟩
  | .hbm, ⟨8, _⟩ => ⟨S4x512, .i32⟩
  | .hbm, ⟨9, _⟩ => ⟨S4x512, .i32⟩
  | .hbm, ⟨10, _⟩ => ⟨S_, .i32⟩
  | .hbm, ⟨11, _⟩ => ⟨S_, .i32⟩
  | .hbm, ⟨12, _⟩ => ⟨S_, .i32⟩
  | .hbm, ⟨13, _⟩ => ⟨S_, .i1⟩
  | .hbm, ⟨14, _⟩ => ⟨S_, .i32⟩
  | .hbm, ⟨15, _⟩ => ⟨S_, .i32⟩
  | .hbm, ⟨16, _⟩ => ⟨S4x512, .i32⟩
  | .hbm, ⟨17, _⟩ => ⟨S4x512, .i32⟩
  | .hbm, ⟨18, _⟩ => ⟨S_, .i32⟩
  | .hbm, ⟨19, _⟩ => ⟨S4x512, .i32⟩
  | .hbm, ⟨20, _⟩ => ⟨S4x512, .i1⟩
  | .hbm, ⟨21, _⟩ => ⟨S_, .i32⟩
  | .hbm, ⟨22, _⟩ => ⟨S4x512, .i32⟩
  | .hbm, ⟨23, _⟩ => ⟨S4x512, .i1⟩
  | .hbm, ⟨24, _⟩ => ⟨S_, .i32⟩
  | .hbm, ⟨25, _⟩ => ⟨S_, .i1⟩
  | .hbm, ⟨26, _⟩ => ⟨S4x512, .i1⟩
  | .hbm, ⟨27, _⟩ => ⟨S4x512, .i1⟩
  | .hbm, ⟨28, _⟩ => ⟨S4x512, .i1⟩
  | .hbm, ⟨29, _⟩ => ⟨S4x512, .i32⟩
  | .hbm, ⟨30, _⟩ => ⟨S4x512, .i32⟩
  | .hbm, ⟨31, _⟩ => ⟨S4x512, .i32⟩
  | .hbm, ⟨32, _⟩ => ⟨S_, .i32⟩
  | .hbm, ⟨33, _⟩ => ⟨S4x512, .i32⟩
  | .hbm, ⟨34, _⟩ => ⟨S4x512, .i32⟩
  | .hbm, ⟨35, _⟩ => ⟨S_, .i32⟩
  | .hbm, ⟨36, _⟩ => ⟨S4x512, .i32⟩
  | .hbm, ⟨37, _⟩ => ⟨S4x512, .i32⟩
  | .hbm, ⟨38, _⟩ => ⟨S_, .i32⟩
  | .hbm, ⟨39, _⟩ => ⟨S4x512, .i32⟩
  | .hbm, ⟨40, _⟩ => ⟨S1x4x512, .i32⟩
  | .hbm, ⟨41, _⟩ => ⟨S1x4x512, .i32⟩
  | .hbm, ⟨42, _⟩ => ⟨S1x4x512, .i32⟩
  | .hbm, ⟨43, _⟩ => ⟨S3x4x512, .i32⟩
  | .hbm, ⟨44, _⟩ => ⟨S3x4x512, .f32⟩
  | .hbm, ⟨45, _⟩ => ⟨S64, .f32⟩
  | .hbm, ⟨46, _⟩ => ⟨S_, .f32⟩
  | .hbm, ⟨47, _⟩ => ⟨S64, .f32⟩
  | .hbm, ⟨48, _⟩ => ⟨S64, .f32⟩
  | .hbm, ⟨49, _⟩ => ⟨S_, .f32⟩
  | .hbm, ⟨50, _⟩ => ⟨S64, .f32⟩
  | .hbm, ⟨51, _⟩ => ⟨S64, .f32⟩
  | .hbm, ⟨52, _⟩ => ⟨S_, .f32⟩
  | .hbm, ⟨53, _⟩ => ⟨S64, .f32⟩
  | .hbm, ⟨54, _⟩ => ⟨S64, .f32⟩
  | .hbm, ⟨55, _⟩ => ⟨S_, .f32⟩
  | .hbm, ⟨56, _⟩ => ⟨S64, .f32⟩
  | .hbm, ⟨57, _⟩ => ⟨S64, .f32⟩
  | .hbm, ⟨58, _⟩ => ⟨S_, .f32⟩
  | .hbm, ⟨59, _⟩ => ⟨S64, .f32⟩
  | .hbm, ⟨60, _⟩ => ⟨S64, .f32⟩
  | .hbm, ⟨61, _⟩ => ⟨S3x4x512x1, .f32⟩
  | .hbm, ⟨62, _⟩ => ⟨S1x1x1x64, .f32⟩
  | .hbm, ⟨63, _⟩ => ⟨S3x4x512x64, .f32⟩
  | .hbm, ⟨64, _⟩ => ⟨S3x4x512x64, .f32⟩
  | .hbm, ⟨65, _⟩ => ⟨S3x4x512x64, .f32⟩
  | .hbm, ⟨66, _⟩ => ⟨S3x4x512x64, .f32⟩
  | .hbm, ⟨67, _⟩ => ⟨S3x4x512x128, .f32⟩
  | .hbm, ⟨68, _⟩ => ⟨S3x4x512x64, .f32⟩
  | .hbm, ⟨69, _⟩ => ⟨S3x4x512x128, .f32⟩
  | .hbm, ⟨70, _⟩ => ⟨S_, .i32⟩
  | .hbm, ⟨71, _⟩ => ⟨S_, .i32⟩
  | .hbm, ⟨72, _⟩ => ⟨S4x512, .i32⟩
  | .hbm, ⟨73, _⟩ => ⟨S4x512, .i32⟩
  | .hbm, ⟨74, _⟩ => ⟨S4x512, .i32⟩
  | .hbm, ⟨75, _⟩ => ⟨S_, .i32⟩
  | .hbm, ⟨76, _⟩ => ⟨S4x512, .i32⟩
  | .hbm, ⟨77, _⟩ => ⟨S4x512, .i1⟩
  | .hbm, ⟨78, _⟩ => ⟨S4x512, .i32⟩
  | .hbm, ⟨79, _⟩ => ⟨S4x512, .i32⟩
  | .hbm, ⟨80, _⟩ => ⟨S_, .i32⟩
  | .hbm, ⟨81, _⟩ => ⟨S4x512, .i32⟩
  | .hbm, ⟨82, _⟩ => ⟨S4x512, .i1⟩
  | .hbm, ⟨83, _⟩ => ⟨S4x512, .i1⟩
  | .hbm, ⟨84, _⟩ => ⟨S_, .i32⟩
  | .hbm, ⟨85, _⟩ => ⟨S4x512, .i32⟩
  | .hbm, ⟨86, _⟩ => ⟨S4x512, .i32⟩
  | .hbm, ⟨87, _⟩ => ⟨S4x512, .i32⟩
  | .hbm, ⟨88, _⟩ => ⟨S4x1x512, .i32⟩
  | .hbm, ⟨89, _⟩ => ⟨S4x1x512, .i32⟩
  | .hbm, ⟨90, _⟩ => ⟨S4x2x512, .i32⟩
  | .hbm, ⟨91, _⟩ => ⟨S4x512x2, .i32⟩
  | .hbm, ⟨92, _⟩ => ⟨S4x2x512x128, .fp8e4m3⟩
  | .hbm, ⟨93, _⟩ => ⟨S4x2x512x128, .fp8e4m3⟩
  | .hbm, ⟨94, _⟩ => ⟨S4x2x512, .f32⟩
  | .hbm, ⟨95, _⟩ => ⟨S4x2x512, .f32⟩
  | .hbm, ⟨96, _⟩ => ⟨S4x512x1536, .bf16⟩
  | .hbm, ⟨97, _⟩ => ⟨S3x4x512x12, .f32⟩
  | .hbm, ⟨98, _⟩ => ⟨S3x4x512x1536, .fp8e4m3⟩
  | .hbm, ⟨99, _⟩ => ⟨S3x4x512x12, .f32⟩
  | .local _ .vmem, ⟨0, _⟩ => ⟨S1x128x1536, .bf16⟩
  | .local _ .vmem, ⟨1, _⟩ => ⟨S1x128x1536, .bf16⟩
  | .local _ .vmem, ⟨2, _⟩ => ⟨S3x1x128x128, .f32⟩
  | .local _ .vmem, ⟨3, _⟩ => ⟨S3x1x128x128, .f32⟩
  | .local _ .vmem, ⟨4, _⟩ => ⟨S3x1x128x128, .f32⟩
  | .local _ .vmem, ⟨5, _⟩ => ⟨S3x1x128x128, .f32⟩
  | .local _ .vmem, ⟨6, _⟩ => ⟨S1x128x2, .i32⟩
  | .local _ .vmem, ⟨7, _⟩ => ⟨S1x128x2, .i32⟩
  | .local _ .vmem, ⟨8, _⟩ => ⟨S1x2x512, .i32⟩
  | .local _ .vmem, ⟨9, _⟩ => ⟨S1x2x512, .i32⟩
  | .local _ .vmem, ⟨10, _⟩ => ⟨S1x2x512x128, .fp8e4m3⟩
  | .local _ .vmem, ⟨11, _⟩ => ⟨S1x2x512x128, .fp8e4m3⟩
  | .local _ .vmem, ⟨12, _⟩ => ⟨S1x2x512, .f32⟩
  | .local _ .vmem, ⟨13, _⟩ => ⟨S1x2x512, .f32⟩
  | .local _ .vmem, ⟨14, _⟩ => ⟨S1x2x512x128, .fp8e4m3⟩
  | .local _ .vmem, ⟨15, _⟩ => ⟨S1x2x512x128, .fp8e4m3⟩
  | .local _ .vmem, ⟨16, _⟩ => ⟨S1x2x512, .f32⟩
  | .local _ .vmem, ⟨17, _⟩ => ⟨S1x2x512, .f32⟩
  | .local _ .vmem, ⟨18, _⟩ => ⟨S1x128x1536, .bf16⟩
  | .local _ .vmem, ⟨19, _⟩ => ⟨S1x128x1536, .bf16⟩
  | .local _ .vmem, ⟨20, _⟩ => ⟨S3x1x128x12, .f32⟩
  | .local _ .vmem, ⟨21, _⟩ => ⟨S3x1x128x12, .f32⟩
  | .local _ .vmem, ⟨22, _⟩ => ⟨S3x1x128x1536, .fp8e4m3⟩
  | .local _ .vmem, ⟨23, _⟩ => ⟨S3x1x128x1536, .fp8e4m3⟩
  | .local _ .vmem, ⟨24, _⟩ => ⟨S3x1x128x12, .f32⟩
  | .local _ .vmem, ⟨25, _⟩ => ⟨S3x1x128x12, .f32⟩
  | _, _ => ⟨S4x512x1536, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_c : Ref sig .tc := ⟨.hbm, 10, rfl⟩
abbrev main_call0_v0 : Ref sig .tc := ⟨.hbm, 11, rfl⟩
abbrev main_call0_c : Ref sig .tc := ⟨.hbm, 12, rfl⟩
abbrev main_call0_v1 : Ref sig .tc := ⟨.hbm, 13, rfl⟩
abbrev main_call0_c_0 : Ref sig .tc := ⟨.hbm, 14, rfl⟩
abbrev main_call0_v2 : Ref sig .tc := ⟨.hbm, 15, rfl⟩
abbrev main_call0_v3 : Ref sig .tc := ⟨.hbm, 16, rfl⟩
abbrev main_call0_v4 : Ref sig .tc := ⟨.hbm, 17, rfl⟩
abbrev main_call0_c_1 : Ref sig .tc := ⟨.hbm, 18, rfl⟩
abbrev main_call0_v5 : Ref sig .tc := ⟨.hbm, 19, rfl⟩
abbrev main_call0_v6 : Ref sig .tc := ⟨.hbm, 20, rfl⟩
abbrev main_call0_c_2 : Ref sig .tc := ⟨.hbm, 21, rfl⟩
abbrev main_call0_v7 : Ref sig .tc := ⟨.hbm, 22, rfl⟩
abbrev main_call0_v8 : Ref sig .tc := ⟨.hbm, 23, rfl⟩
abbrev main_call0_c_3 : Ref sig .tc := ⟨.hbm, 24, rfl⟩
abbrev main_call0_v9 : Ref sig .tc := ⟨.hbm, 25, rfl⟩
abbrev main_call0_v10 : Ref sig .tc := ⟨.hbm, 26, rfl⟩
abbrev main_call0_v11 : Ref sig .tc := ⟨.hbm, 27, rfl⟩
abbrev main_call0_v12 : Ref sig .tc := ⟨.hbm, 28, rfl⟩
abbrev main_call0_v13 : Ref sig .tc := ⟨.hbm, 29, rfl⟩
abbrev main_call0_v14 : Ref sig .tc := ⟨.hbm, 30, rfl⟩
abbrev main_v4 : Ref sig .tc := ⟨.hbm, 31, rfl⟩
abbrev main_c_0 : Ref sig .tc := ⟨.hbm, 32, rfl⟩
abbrev main_v5 : Ref sig .tc := ⟨.hbm, 33, rfl⟩
abbrev main_v6 : Ref sig .tc := ⟨.hbm, 34, rfl⟩
abbrev main_c_1 : Ref sig .tc := ⟨.hbm, 35, rfl⟩
abbrev main_v7 : Ref sig .tc := ⟨.hbm, 36, rfl⟩
abbrev main_v8 : Ref sig .tc := ⟨.hbm, 37, rfl⟩
abbrev main_c_2 : Ref sig .tc := ⟨.hbm, 38, rfl⟩
abbrev main_v9 : Ref sig .tc := ⟨.hbm, 39, rfl⟩
abbrev main_v10 : Ref sig .tc := ⟨.hbm, 40, rfl⟩
abbrev main_v11 : Ref sig .tc := ⟨.hbm, 41, rfl⟩
abbrev main_v12 : Ref sig .tc := ⟨.hbm, 42, rfl⟩
abbrev main_v13 : Ref sig .tc := ⟨.hbm, 43, rfl⟩
abbrev main_v14 : Ref sig .tc := ⟨.hbm, 44, rfl⟩
abbrev main_v15 : Ref sig .tc := ⟨.hbm, 45, rfl⟩
abbrev main_cst : Ref sig .tc := ⟨.hbm, 46, rfl⟩
abbrev main_v16 : Ref sig .tc := ⟨.hbm, 47, rfl⟩
abbrev main_v17 : Ref sig .tc := ⟨.hbm, 48, rfl⟩
abbrev main_cst_3 : Ref sig .tc := ⟨.hbm, 49, rfl⟩
abbrev main_v18 : Ref sig .tc := ⟨.hbm, 50, rfl⟩
abbrev main_v19 : Ref sig .tc := ⟨.hbm, 51, rfl⟩
abbrev main_cst_4 : Ref sig .tc := ⟨.hbm, 52, rfl⟩
abbrev main_v20 : Ref sig .tc := ⟨.hbm, 53, rfl⟩
abbrev main_v21 : Ref sig .tc := ⟨.hbm, 54, rfl⟩
abbrev main_cst_5 : Ref sig .tc := ⟨.hbm, 55, rfl⟩
abbrev main_v22 : Ref sig .tc := ⟨.hbm, 56, rfl⟩
abbrev main_v23 : Ref sig .tc := ⟨.hbm, 57, rfl⟩
abbrev main_cst_6 : Ref sig .tc := ⟨.hbm, 58, rfl⟩
abbrev main_v24 : Ref sig .tc := ⟨.hbm, 59, rfl⟩
abbrev main_v25 : Ref sig .tc := ⟨.hbm, 60, rfl⟩
abbrev main_v26 : Ref sig .tc := ⟨.hbm, 61, rfl⟩
abbrev main_v27 : Ref sig .tc := ⟨.hbm, 62, rfl⟩
abbrev main_v28 : Ref sig .tc := ⟨.hbm, 63, rfl⟩
abbrev main_v29 : Ref sig .tc := ⟨.hbm, 64, rfl⟩
abbrev main_v30 : Ref sig .tc := ⟨.hbm, 65, rfl⟩
abbrev main_v31 : Ref sig .tc := ⟨.hbm, 66, rfl⟩
abbrev main_v32 : Ref sig .tc := ⟨.hbm, 67, rfl⟩
abbrev main_v33 : Ref sig .tc := ⟨.hbm, 68, rfl⟩
abbrev main_v34 : Ref sig .tc := ⟨.hbm, 69, rfl⟩
abbrev main_c_7 : Ref sig .tc := ⟨.hbm, 70, rfl⟩
abbrev main_call1_v0 : Ref sig .tc := ⟨.hbm, 71, rfl⟩
abbrev main_call1_v1 : Ref sig .tc := ⟨.hbm, 72, rfl⟩
abbrev main_call1_v2 : Ref sig .tc := ⟨.hbm, 73, rfl⟩
abbrev main_call1_v3 : Ref sig .tc := ⟨.hbm, 74, rfl⟩
abbrev main_call1_v4 : Ref sig .tc := ⟨.hbm, 75, rfl⟩
abbrev main_call1_v5 : Ref sig .tc := ⟨.hbm, 76, rfl⟩
abbrev main_call1_v6 : Ref sig .tc := ⟨.hbm, 77, rfl⟩
abbrev main_call1_v7 : Ref sig .tc := ⟨.hbm, 78, rfl⟩
abbrev main_call1_v8 : Ref sig .tc := ⟨.hbm, 79, rfl⟩
abbrev main_call1_c : Ref sig .tc := ⟨.hbm, 80, rfl⟩
abbrev main_call1_v9 : Ref sig .tc := ⟨.hbm, 81, rfl⟩
abbrev main_call1_v10 : Ref sig .tc := ⟨.hbm, 82, rfl⟩
abbrev main_call1_v11 : Ref sig .tc := ⟨.hbm, 83, rfl⟩
abbrev main_call1_c_0 : Ref sig .tc := ⟨.hbm, 84, rfl⟩
abbrev main_call1_v12 : Ref sig .tc := ⟨.hbm, 85, rfl⟩
abbrev main_call1_v13 : Ref sig .tc := ⟨.hbm, 86, rfl⟩
abbrev main_v35 : Ref sig .tc := ⟨.hbm, 87, rfl⟩
abbrev main_v36 : Ref sig .tc := ⟨.hbm, 88, rfl⟩
abbrev main_v37 : Ref sig .tc := ⟨.hbm, 89, rfl⟩
abbrev main_v38 : Ref sig .tc := ⟨.hbm, 90, rfl⟩
abbrev main_v39 : Ref sig .tc := ⟨.hbm, 91, rfl⟩
abbrev main_v40 : Ref sig .tc := ⟨.hbm, 92, rfl⟩
abbrev main_v41 : Ref sig .tc := ⟨.hbm, 93, rfl⟩
abbrev main_v42 : Ref sig .tc := ⟨.hbm, 94, rfl⟩
abbrev main_v43 : Ref sig .tc := ⟨.hbm, 95, rfl⟩
abbrev main_v44_0 : Ref sig .tc := ⟨.hbm, 96, rfl⟩
abbrev main_v44_1 : Ref sig .tc := ⟨.hbm, 97, rfl⟩
abbrev main_v44_2 : Ref sig .tc := ⟨.hbm, 98, rfl⟩
abbrev main_v44_3 : Ref sig .tc := ⟨.hbm, 99, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25

abbrev nD : Nat := 1
abbrev τ : Topo := Topo.v7x

variable {F : FTy → Type} [FloatOps F]

abbrev grid0 : Pipeline.Grid := ⟨2, ![4, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, arg1.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, arg1.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, arg1.toNat, c0_i32_0.toNat]

def cc0_transform_11 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, arg1.toNat, c0_i32_0.toNat]

def cc0_transform_12 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, arg1.toNat, c0_i32_0.toNat]

abbrev stage0_0 : Fin 2 → Memref sig .tc .vmem S1x128x1536 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S3x1x128x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S3x1x128x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x128x2 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x2x512 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x2x512x128 .fp8e4m3 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x2x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x2x512x128 .fp8e4m3 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1x2x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S1x128x1536 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S3x1x128x12 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S3x1x128x1536 .fp8e4m3 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S3x1x128x12 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]
-- ==== ReferenceIdeal.lean ====
abbrev S4x512x1536 : Shape := ⟨3, ![4, 512, 1536]⟩
abbrev S4x512 : Shape := ⟨2, ![4, 512]⟩
abbrev S4x512x2x128 : Shape := ⟨4, ![4, 512, 2, 128]⟩
abbrev S4x512x2 : Shape := ⟨3, ![4, 512, 2]⟩
abbrev S512 : Shape := ⟨1, ![512]⟩
abbrev S1x4x512x12x128 : Shape := ⟨5, ![1, 4, 512, 12, 128]⟩
abbrev S1x512 : Shape := ⟨2, ![1, 512]⟩
abbrev S_ : Shape := ⟨0, ![]⟩
abbrev S1x4x512 : Shape := ⟨3, ![1, 4, 512]⟩
abbrev S3x4x512 : Shape := ⟨3, ![3, 4, 512]⟩
abbrev S64 : Shape := ⟨1, ![64]⟩
abbrev S3x4x512x1x1 : Shape := ⟨5, ![3, 4, 512, 1, 1]⟩
abbrev S1x1x1x1x64 : Shape := ⟨5, ![1, 1, 1, 1, 64]⟩
abbrev S3x4x512x1x64 : Shape := ⟨5, ![3, 4, 512, 1, 64]⟩
abbrev S1x4x512x12x64 : Shape := ⟨5, ![1, 4, 512, 12, 64]⟩
abbrev S3x4x512x12x64 : Shape := ⟨5, ![3, 4, 512, 12, 64]⟩
abbrev S3x4x512x12x128 : Shape := ⟨5, ![3, 4, 512, 12, 128]⟩
abbrev S3x4x512x12x1 : Shape := ⟨5, ![3, 4, 512, 12, 1]⟩
abbrev S3x4x512x12 : Shape := ⟨4, ![3, 4, 512, 12]⟩
abbrev S4x1x1x512x1 : Shape := ⟨5, ![4, 1, 1, 512, 1]⟩
abbrev S4x1x1x1x512 : Shape := ⟨5, ![4, 1, 1, 1, 512]⟩
abbrev S4x1x1x512x512 : Shape := ⟨5, ![4, 1, 1, 512, 512]⟩
abbrev S512x1 : Shape := ⟨2, ![512, 1]⟩
abbrev S512x512 : Shape := ⟨2, ![512, 512]⟩
abbrev S1x1x1x512x512 : Shape := ⟨5, ![1, 1, 1, 512, 512]⟩
abbrev S3x4x512x2x6x128 : Shape := ⟨6, ![3, 4, 512, 2, 6, 128]⟩
abbrev S4x2x512x3x512x6 : Shape := ⟨6, ![4, 2, 512, 3, 512, 6]⟩
abbrev S3x4x2x6x512x512 : Shape := ⟨6, ![3, 4, 2, 6, 512, 512]⟩
abbrev S3x4x512x2x6 : Shape := ⟨5, ![3, 4, 512, 2, 6]⟩
abbrev S3x4x2x6x512 : Shape := ⟨5, ![3, 4, 2, 6, 512]⟩
abbrev S3x4x2x6x512x1 : Shape := ⟨6, ![3, 4, 2, 6, 512, 1]⟩
abbrev S4x2x512 : Shape := ⟨3, ![4, 2, 512]⟩
abbrev S1x4x2x1x1x512 : Shape := ⟨6, ![1, 4, 2, 1, 1, 512]⟩
abbrev S1x4x2x6x512x512 : Shape := ⟨6, ![1, 4, 2, 6, 512, 512]⟩
abbrev S4x2x6x512x512 : Shape := ⟨5, ![4, 2, 6, 512, 512]⟩
abbrev S4x2x6x512 : Shape := ⟨4, ![4, 2, 6, 512]⟩
abbrev S4x2x6x512x1 : Shape := ⟨5, ![4, 2, 6, 512, 1]⟩
abbrev S1x4x2x6x512 : Shape := ⟨5, ![1, 4, 2, 6, 512]⟩
abbrev S4x2x1x1x512 : Shape := ⟨5, ![4, 2, 1, 1, 512]⟩
abbrev S4x2x128x6x512 : Shape := ⟨5, ![4, 2, 128, 6, 512]⟩
abbrev S4x512x2x6x128 : Shape := ⟨5, ![4, 512, 2, 6, 128]⟩
abbrev S3x4x512x1536 : Shape := ⟨4, ![3, 4, 512, 1536]⟩

abbrev nBuf : Space → Nat
  | .hbm => 229
  | .vmem => 8
  | .smem => 0
  | _ => 0

abbrev hbmTy0_0 (i : Nat) : BufTy := match i % 128 with
  | 0 => ⟨S4x512x1536, .bf16⟩
  | 1 => ⟨S4x512, .i32⟩
  | 2 => ⟨S4x512x2x128, .fp8e4m3⟩
  | 3 => ⟨S4x512x2, .f32⟩
  | 4 => ⟨S4x512x2x128, .fp8e4m3⟩
  | 5 => ⟨S4x512x2, .f32⟩
  | 6 => ⟨S512, .i32⟩
  | 7 => ⟨S4x512x1536, .f32⟩
  | 8 => ⟨S1x4x512x12x128, .f32⟩
  | 9 => ⟨S1x512, .i32⟩
  | 10 => ⟨S4x512, .i32⟩
  | 11 => ⟨S4x512, .i32⟩
  | 12 => ⟨S_, .i32⟩
  | 13 => ⟨S_, .i32⟩
  | 14 => ⟨S_, .i32⟩
  | 15 => ⟨S_, .i1⟩
  | 16 => ⟨S_, .i32⟩
  | 17 => ⟨S_, .i32⟩
  | 18 => ⟨S4x512, .i32⟩
  | 19 => ⟨S4x512, .i32⟩
  | 20 => ⟨S_, .i32⟩
  | 21 => ⟨S4x512, .i32⟩
  | 22 => ⟨S4x512, .i1⟩
  | 23 => ⟨S_, .i32⟩
  | 24 => ⟨S4x512, .i32⟩
  | 25 => ⟨S4x512, .i1⟩
  | 26 => ⟨S_, .i32⟩
  | 27 => ⟨S_, .i1⟩
  | 28 => ⟨S4x512, .i1⟩
  | 29 => ⟨S4x512, .i1⟩
  | 30 => ⟨S4x512, .i1⟩
  | 31 => ⟨S4x512, .i32⟩
  | 32 => ⟨S4x512, .i32⟩
  | 33 => ⟨S4x512, .i32⟩
  | 34 => ⟨S_, .i32⟩
  | 35 => ⟨S4x512, .i32⟩
  | 36 => ⟨S4x512, .i32⟩
  | 37 => ⟨S_, .i32⟩
  | 38 => ⟨S4x512, .i32⟩
  | 39 => ⟨S4x512, .i32⟩
  | 40 => ⟨S_, .i32⟩
  | 41 => ⟨S4x512, .i32⟩
  | 42 => ⟨S1x4x512, .i32⟩
  | 43 => ⟨S1x4x512, .i32⟩
  | 44 => ⟨S1x4x512, .i32⟩
  | 45 => ⟨S3x4x512, .i32⟩
  | 46 => ⟨S3x4x512, .f32⟩
  | 47 => ⟨S64, .f32⟩
  | 48 => ⟨S_, .f32⟩
  | 49 => ⟨S64, .f32⟩
  | 50 => ⟨S64, .f32⟩
  | 51 => ⟨S_, .f32⟩
  | 52 => ⟨S64, .f32⟩
  | 53 => ⟨S64, .f32⟩
  | 54 => ⟨S_, .f32⟩
  | 55 => ⟨S64, .f32⟩
  | 56 => ⟨S64, .f32⟩
  | 57 => ⟨S_, .f32⟩
  | 58 => ⟨S64, .f32⟩
  | 59 => ⟨S64, .f32⟩
  | 60 => ⟨S_, .f32⟩
  | 61 => ⟨S64, .f32⟩
  | 62 => ⟨S64, .f32⟩
  | 63 => ⟨S3x4x512x1x1, .f32⟩
  | 64 => ⟨S1x1x1x1x64, .f32⟩
  | 65 => ⟨S3x4x512x1x64, .f32⟩
  | 66 => ⟨S3x4x512x1x64, .f32⟩
  | 67 => ⟨S3x4x512x1x64, .f32⟩
  | 68 => ⟨S3x4x512x1x64, .f32⟩
  | 69 => ⟨S3x4x512x1x64, .f32⟩
  | 70 => ⟨S1x4x512x12x64, .f32⟩
  | 71 => ⟨S1x4x512x12x64, .f32⟩
  | 72 => ⟨S3x4x512x12x64, .f32⟩
  | 73 => ⟨S3x4x512x12x64, .f32⟩
  | 74 => ⟨S3x4x512x12x64, .f32⟩
  | 75 => ⟨S3x4x512x12x64, .f32⟩
  | 76 => ⟨S3x4x512x12x64, .f32⟩
  | 77 => ⟨S3x4x512x12x64, .f32⟩
  | 78 => ⟨S3x4x512x12x64, .f32⟩
  | 79 => ⟨S3x4x512x12x64, .f32⟩
  | 80 => ⟨S3x4x512x12x64, .f32⟩
  | 81 => ⟨S3x4x512x12x64, .f32⟩
  | 82 => ⟨S3x4x512x12x64, .f32⟩
  | 83 => ⟨S3x4x512x12x64, .f32⟩
  | 84 => ⟨S3x4x512x12x64, .f32⟩
  | 85 => ⟨S3x4x512x12x64, .f32⟩
  | 86 => ⟨S3x4x512x12x128, .f32⟩
  | 87 => ⟨S3x4x512x12x128, .fp8e4m3⟩
  | 88 => ⟨S3x4x512x12x1, .f32⟩
  | 89 => ⟨S3x4x512x12x128, .f32⟩
  | 90 => ⟨S4x512x2x128, .f32⟩
  | 91 => ⟨S4x512x2x128, .bf16⟩
  | 92 => ⟨S512, .i32⟩
  | 93 => ⟨S1x512, .i32⟩
  | 94 => ⟨S4x512, .i32⟩
  | 95 => ⟨S4x512, .i32⟩
  | 96 => ⟨S_, .i32⟩
  | 97 => ⟨S_, .i32⟩
  | 98 => ⟨S4x512, .i32⟩
  | 99 => ⟨S4x512, .i32⟩
  | 100 => ⟨S4x512, .i32⟩
  | 101 => ⟨S_, .i32⟩
  | 102 => ⟨S4x512, .i32⟩
  | 103 => ⟨S4x512, .i1⟩
  | 104 => ⟨S4x512, .i32⟩
  | 105 => ⟨S4x512, .i32⟩
  | 106 => ⟨S_, .i32⟩
  | 107 => ⟨S4x512, .i32⟩
  | 108 => ⟨S4x512, .i1⟩
  | 109 => ⟨S4x512, .i1⟩
  | 110 => ⟨S_, .i32⟩
  | 111 => ⟨S4x512, .i32⟩
  | 112 => ⟨S4x512, .i32⟩
  | 113 => ⟨S4x512, .i32⟩
  | 114 => ⟨S4x1x1x512x1, .i32⟩
  | 115 => ⟨S4x1x1x1x512, .i32⟩
  | 116 => ⟨S4x1x1x512x512, .i32⟩
  | 117 => ⟨S4x1x1x512x512, .i32⟩
  | 118 => ⟨S4x1x1x512x512, .i32⟩
  | 119 => ⟨S1x512, .i32⟩
  | 120 => ⟨S512x1, .i32⟩
  | 121 => ⟨S512x512, .i32⟩
  | 122 => ⟨S512x512, .i32⟩
  | 123 => ⟨S512x512, .i1⟩
  | 124 => ⟨S4x1x1x512x1, .i32⟩
  | 125 => ⟨S4x1x1x1x512, .i32⟩
  | 126 => ⟨S4x1x1x512x512, .i32⟩
  | 127 => ⟨S4x1x1x512x512, .i32⟩
  | _ => ⟨S4x512x1536, .bf16⟩

abbrev hbmTy0_1 (i : Nat) : BufTy := match i % 128 with
  | 0 => ⟨S4x1x1x512x512, .i1⟩
  | 1 => ⟨S1x1x1x512x512, .i1⟩
  | 2 => ⟨S4x1x1x512x512, .i1⟩
  | 3 => ⟨S4x1x1x512x512, .i1⟩
  | 4 => ⟨S3x4x512x2x6x128, .f32⟩
  | 5 => ⟨S4x2x512x3x512x6, .f32⟩
  | 6 => ⟨S3x4x2x6x512x512, .f32⟩
  | 7 => ⟨S3x4x512x2x6, .f32⟩
  | 8 => ⟨S3x4x2x6x512, .f32⟩
  | 9 => ⟨S3x4x2x6x512x1, .f32⟩
  | 10 => ⟨S3x4x2x6x512x512, .f32⟩
  | 11 => ⟨S3x4x2x6x512x512, .f32⟩
  | 12 => ⟨S4x2x512, .f32⟩
  | 13 => ⟨S_, .f32⟩
  | 14 => ⟨S4x2x512, .f32⟩
  | 15 => ⟨S4x2x512, .f32⟩
  | 16 => ⟨S1x4x2x1x1x512, .f32⟩
  | 17 => ⟨S3x4x2x6x512x512, .f32⟩
  | 18 => ⟨S3x4x2x6x512x512, .f32⟩
  | 19 => ⟨S_, .i32⟩
  | 20 => ⟨S4x1x1x512x512, .i32⟩
  | 21 => ⟨S4x1x1x512x512, .i1⟩
  | 22 => ⟨S1x4x2x6x512x512, .f32⟩
  | 23 => ⟨S4x2x6x512x512, .f32⟩
  | 24 => ⟨S_, .i32⟩
  | 25 => ⟨S4x1x1x512x512, .i32⟩
  | 26 => ⟨S4x1x1x512x512, .i1⟩
  | 27 => ⟨S1x4x2x6x512x512, .f32⟩
  | 28 => ⟨S4x2x6x512x512, .f32⟩
  | 29 => ⟨S1x4x2x6x512x512, .f32⟩
  | 30 => ⟨S4x2x6x512x512, .f32⟩
  | 31 => ⟨S4x2x6x512x512, .i1⟩
  | 32 => ⟨S4x2x6x512x512, .f32⟩
  | 33 => ⟨S4x2x6x512x512, .i1⟩
  | 34 => ⟨S4x2x6x512x512, .f32⟩
  | 35 => ⟨S_, .f32⟩
  | 36 => ⟨S_, .f32⟩
  | 37 => ⟨S4x2x6x512x512, .i1⟩
  | 38 => ⟨S4x2x6x512x512, .f32⟩
  | 39 => ⟨S4x2x6x512x512, .f32⟩
  | 40 => ⟨S_, .f32⟩
  | 41 => ⟨S4x2x6x512, .f32⟩
  | 42 => ⟨S_, .f32⟩
  | 43 => ⟨S4x2x6x512, .f32⟩
  | 44 => ⟨S4x2x6x512, .f32⟩
  | 45 => ⟨S4x2x6x512x1, .f32⟩
  | 46 => ⟨S4x2x6x512x512, .f32⟩
  | 47 => ⟨S4x2x6x512x512, .f32⟩
  | 48 => ⟨S4x2x6x512x512, .f32⟩
  | 49 => ⟨S_, .f32⟩
  | 50 => ⟨S4x2x6x512, .f32⟩
  | 51 => ⟨S4x2x6x512x1, .f32⟩
  | 52 => ⟨S4x2x6x512x512, .f32⟩
  | 53 => ⟨S4x2x6x512x512, .f32⟩
  | 54 => ⟨S_, .i32⟩
  | 55 => ⟨S4x1x1x512x512, .i32⟩
  | 56 => ⟨S4x1x1x512x512, .i1⟩
  | 57 => ⟨S_, .f32⟩
  | 58 => ⟨S_, .f32⟩
  | 59 => ⟨S4x2x6x512x512, .i1⟩
  | 60 => ⟨S4x2x6x512x512, .f32⟩
  | 61 => ⟨S4x2x6x512x512, .f32⟩
  | 62 => ⟨S_, .f32⟩
  | 63 => ⟨S4x2x6x512, .f32⟩
  | 64 => ⟨S_, .i32⟩
  | 65 => ⟨S4x1x1x512x512, .i32⟩
  | 66 => ⟨S4x1x1x512x512, .i1⟩
  | 67 => ⟨S_, .f32⟩
  | 68 => ⟨S_, .f32⟩
  | 69 => ⟨S4x2x6x512x512, .i1⟩
  | 70 => ⟨S4x2x6x512x512, .f32⟩
  | 71 => ⟨S4x2x6x512x512, .f32⟩
  | 72 => ⟨S_, .f32⟩
  | 73 => ⟨S4x2x6x512, .f32⟩
  | 74 => ⟨S_, .i32⟩
  | 75 => ⟨S4x1x1x512x512, .i32⟩
  | 76 => ⟨S4x1x1x512x512, .i1⟩
  | 77 => ⟨S_, .f32⟩
  | 78 => ⟨S_, .f32⟩
  | 79 => ⟨S4x2x6x512x512, .i1⟩
  | 80 => ⟨S4x2x6x512x512, .f32⟩
  | 81 => ⟨S4x2x6x512x512, .f32⟩
  | 82 => ⟨S_, .f32⟩
  | 83 => ⟨S4x2x6x512, .f32⟩
  | 84 => ⟨S1x4x2x6x512, .f32⟩
  | 85 => ⟨S1x4x2x6x512, .f32⟩
  | 86 => ⟨S1x4x2x6x512, .f32⟩
  | 87 => ⟨S3x4x2x6x512, .f32⟩
  | 88 => ⟨S3x4x512x2x6, .f32⟩
  | 89 => ⟨S3x4x512x12, .f32⟩
  | 90 => ⟨S4x2x512, .f32⟩
  | 91 => ⟨S4x2x1x1x512, .f32⟩
  | 92 => ⟨S4x2x6x512x512, .f32⟩
  | 93 => ⟨S4x2x6x512x512, .f32⟩
  | 94 => ⟨S4x2x6x512x512, .bf16⟩
  | 95 => ⟨S4x2x128x6x512, .f32⟩
  | 96 => ⟨S4x512x2x6x128, .f32⟩
  | 97 => ⟨S4x512x1536, .f32⟩
  | 98 => ⟨S4x512x1536, .bf16⟩
  | 99 => ⟨S3x4x512x1536, .fp8e4m3⟩
  | 100 => ⟨S3x4x512x12, .f32⟩
  | _ => ⟨S4x512x1536, .bf16⟩

abbrev hbmTy (i : Nat) : BufTy := match i / 128 with
  | 0 => hbmTy0_0 i
  | 1 => hbmTy0_1 i
  | _ => ⟨S4x512x1536, .bf16⟩

abbrev bufTy : (tb : Table) → Fin (tcTables nBuf tb) → BufTy
  | .hbm, ⟨i, _⟩ => hbmTy i
  | .local _ .vmem, ⟨0, _⟩ => ⟨S3x4x512x12x128, .f32⟩
  | .local _ .vmem, ⟨1, _⟩ => ⟨S4x512x2x128, .fp8e4m3⟩
  | .local _ .vmem, ⟨2, _⟩ => ⟨S4x512x2x128, .fp8e4m3⟩
  | .local _ .vmem, ⟨3, _⟩ => ⟨S3x4x512x12x128, .fp8e4m3⟩
  | .local _ .vmem, ⟨4, _⟩ => ⟨S3x4x512x12x1, .f32⟩
  | .local _ .vmem, ⟨5, _⟩ => ⟨S3x4x512x12x128, .f32⟩
  | .local _ .vmem, ⟨6, _⟩ => ⟨S4x512x2x128, .f32⟩
  | .local _ .vmem, ⟨7, _⟩ => ⟨S4x512x2x128, .bf16⟩
  | _, _ => ⟨S4x512x1536, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_c : Ref sig .tc := ⟨.hbm, 12, rfl⟩
abbrev main_call0_v0 : Ref sig .tc := ⟨.hbm, 13, rfl⟩
abbrev main_call0_c : Ref sig .tc := ⟨.hbm, 14, rfl⟩
abbrev main_call0_v1 : Ref sig .tc := ⟨.hbm, 15, rfl⟩
abbrev main_call0_c_0 : Ref sig .tc := ⟨.hbm, 16, rfl⟩
abbrev main_call0_v2 : Ref sig .tc := ⟨.hbm, 17, rfl⟩
abbrev main_call0_v3 : Ref sig .tc := ⟨.hbm, 18, rfl⟩
abbrev main_call0_v4 : Ref sig .tc := ⟨.hbm, 19, rfl⟩
abbrev main_call0_c_1 : Ref sig .tc := ⟨.hbm, 20, rfl⟩
abbrev main_call0_v5 : Ref sig .tc := ⟨.hbm, 21, rfl⟩
abbrev main_call0_v6 : Ref sig .tc := ⟨.hbm, 22, rfl⟩
abbrev main_call0_c_2 : Ref sig .tc := ⟨.hbm, 23, rfl⟩
abbrev main_call0_v7 : Ref sig .tc := ⟨.hbm, 24, rfl⟩
abbrev main_call0_v8 : Ref sig .tc := ⟨.hbm, 25, rfl⟩
abbrev main_call0_c_3 : Ref sig .tc := ⟨.hbm, 26, rfl⟩
abbrev main_call0_v9 : Ref sig .tc := ⟨.hbm, 27, rfl⟩
abbrev main_call0_v10 : Ref sig .tc := ⟨.hbm, 28, rfl⟩
abbrev main_call0_v11 : Ref sig .tc := ⟨.hbm, 29, rfl⟩
abbrev main_call0_v12 : Ref sig .tc := ⟨.hbm, 30, rfl⟩
abbrev main_call0_v13 : Ref sig .tc := ⟨.hbm, 31, rfl⟩
abbrev main_call0_v14 : Ref sig .tc := ⟨.hbm, 32, rfl⟩
abbrev main_v6 : Ref sig .tc := ⟨.hbm, 33, rfl⟩
abbrev main_c_0 : Ref sig .tc := ⟨.hbm, 34, rfl⟩
abbrev main_v7 : Ref sig .tc := ⟨.hbm, 35, rfl⟩
abbrev main_v8 : Ref sig .tc := ⟨.hbm, 36, rfl⟩
abbrev main_c_1 : Ref sig .tc := ⟨.hbm, 37, rfl⟩
abbrev main_v9 : Ref sig .tc := ⟨.hbm, 38, rfl⟩
abbrev main_v10 : Ref sig .tc := ⟨.hbm, 39, rfl⟩
abbrev main_c_2 : Ref sig .tc := ⟨.hbm, 40, rfl⟩
abbrev main_v11 : Ref sig .tc := ⟨.hbm, 41, rfl⟩
abbrev main_v12 : Ref sig .tc := ⟨.hbm, 42, rfl⟩
abbrev main_v13 : Ref sig .tc := ⟨.hbm, 43, rfl⟩
abbrev main_v14 : Ref sig .tc := ⟨.hbm, 44, rfl⟩
abbrev main_v15 : Ref sig .tc := ⟨.hbm, 45, rfl⟩
abbrev main_v16 : Ref sig .tc := ⟨.hbm, 46, rfl⟩
abbrev main_v17 : Ref sig .tc := ⟨.hbm, 47, rfl⟩
abbrev main_cst : Ref sig .tc := ⟨.hbm, 48, rfl⟩
abbrev main_v18 : Ref sig .tc := ⟨.hbm, 49, rfl⟩
abbrev main_v19 : Ref sig .tc := ⟨.hbm, 50, rfl⟩
abbrev main_cst_3 : Ref sig .tc := ⟨.hbm, 51, rfl⟩
abbrev main_v20 : Ref sig .tc := ⟨.hbm, 52, rfl⟩
abbrev main_v21 : Ref sig .tc := ⟨.hbm, 53, rfl⟩
abbrev main_cst_4 : Ref sig .tc := ⟨.hbm, 54, rfl⟩
abbrev main_v22 : Ref sig .tc := ⟨.hbm, 55, rfl⟩
abbrev main_v23 : Ref sig .tc := ⟨.hbm, 56, rfl⟩
abbrev main_cst_5 : Ref sig .tc := ⟨.hbm, 57, rfl⟩
abbrev main_v24 : Ref sig .tc := ⟨.hbm, 58, rfl⟩
abbrev main_v25 : Ref sig .tc := ⟨.hbm, 59, rfl⟩
abbrev main_cst_6 : Ref sig .tc := ⟨.hbm, 60, rfl⟩
abbrev main_v26 : Ref sig .tc := ⟨.hbm, 61, rfl⟩
abbrev main_v27 : Ref sig .tc := ⟨.hbm, 62, rfl⟩
abbrev main_v28 : Ref sig .tc := ⟨.hbm, 63, rfl⟩
abbrev main_v29 : Ref sig .tc := ⟨.hbm, 64, rfl⟩
abbrev main_v30 : Ref sig .tc := ⟨.hbm, 65, rfl⟩
abbrev main_v31 : Ref sig .tc := ⟨.hbm, 66, rfl⟩
abbrev main_v32 : Ref sig .tc := ⟨.hbm, 67, rfl⟩
abbrev main_v33 : Ref sig .tc := ⟨.hbm, 68, rfl⟩
abbrev main_v34 : Ref sig .tc := ⟨.hbm, 69, rfl⟩
abbrev main_v35 : Ref sig .tc := ⟨.hbm, 70, rfl⟩
abbrev main_v36 : Ref sig .tc := ⟨.hbm, 71, rfl⟩
abbrev main_v37 : Ref sig .tc := ⟨.hbm, 72, rfl⟩
abbrev main_v38 : Ref sig .tc := ⟨.hbm, 73, rfl⟩
abbrev main_v39 : Ref sig .tc := ⟨.hbm, 74, rfl⟩
abbrev main_v40 : Ref sig .tc := ⟨.hbm, 75, rfl⟩
abbrev main_v41 : Ref sig .tc := ⟨.hbm, 76, rfl⟩
abbrev main_v42 : Ref sig .tc := ⟨.hbm, 77, rfl⟩
abbrev main_v43 : Ref sig .tc := ⟨.hbm, 78, rfl⟩
abbrev main_v44 : Ref sig .tc := ⟨.hbm, 79, rfl⟩
abbrev main_v45 : Ref sig .tc := ⟨.hbm, 80, rfl⟩
abbrev main_v46 : Ref sig .tc := ⟨.hbm, 81, rfl⟩
abbrev main_v47 : Ref sig .tc := ⟨.hbm, 82, rfl⟩
abbrev main_v48 : Ref sig .tc := ⟨.hbm, 83, rfl⟩
abbrev main_v49 : Ref sig .tc := ⟨.hbm, 84, rfl⟩
abbrev main_v50 : Ref sig .tc := ⟨.hbm, 85, rfl⟩
abbrev main_v51 : Ref sig .tc := ⟨.hbm, 86, rfl⟩
abbrev main_v52_0 : Ref sig .tc := ⟨.hbm, 87, rfl⟩
abbrev main_v52_1 : Ref sig .tc := ⟨.hbm, 88, rfl⟩
abbrev main_v52_2 : Ref sig .tc := ⟨.hbm, 89, rfl⟩
abbrev main_v52_3 : Ref sig .tc := ⟨.hbm, 90, rfl⟩
abbrev main_v52_4 : Ref sig .tc := ⟨.hbm, 91, rfl⟩
abbrev main_v53 : Ref sig .tc := ⟨.hbm, 92, rfl⟩
abbrev main_v54 : Ref sig .tc := ⟨.hbm, 93, rfl⟩
abbrev main_v55 : Ref sig .tc := ⟨.hbm, 94, rfl⟩
abbrev main_v56 : Ref sig .tc := ⟨.hbm, 95, rfl⟩
abbrev main_c_7 : Ref sig .tc := ⟨.hbm, 96, rfl⟩
abbrev main_call1_v0 : Ref sig .tc := ⟨.hbm, 97, rfl⟩
abbrev main_call1_v1 : Ref sig .tc := ⟨.hbm, 98, rfl⟩
abbrev main_call1_v2 : Ref sig .tc := ⟨.hbm, 99, rfl⟩
abbrev main_call1_v3 : Ref sig .tc := ⟨.hbm, 100, rfl⟩
abbrev main_call1_v4 : Ref sig .tc := ⟨.hbm, 101, rfl⟩
abbrev main_call1_v5 : Ref sig .tc := ⟨.hbm, 102, rfl⟩
abbrev main_call1_v6 : Ref sig .tc := ⟨.hbm, 103, rfl⟩
abbrev main_call1_v7 : Ref sig .tc := ⟨.hbm, 104, rfl⟩
abbrev main_call1_v8 : Ref sig .tc := ⟨.hbm, 105, rfl⟩
abbrev main_call1_c : Ref sig .tc := ⟨.hbm, 106, rfl⟩
abbrev main_call1_v9 : Ref sig .tc := ⟨.hbm, 107, rfl⟩
abbrev main_call1_v10 : Ref sig .tc := ⟨.hbm, 108, rfl⟩
abbrev main_call1_v11 : Ref sig .tc := ⟨.hbm, 109, rfl⟩
abbrev main_call1_c_0 : Ref sig .tc := ⟨.hbm, 110, rfl⟩
abbrev main_call1_v12 : Ref sig .tc := ⟨.hbm, 111, rfl⟩
abbrev main_call1_v13 : Ref sig .tc := ⟨.hbm, 112, rfl⟩
abbrev main_v57 : Ref sig .tc := ⟨.hbm, 113, rfl⟩
abbrev main_v58 : Ref sig .tc := ⟨.hbm, 114, rfl⟩
abbrev main_v59 : Ref sig .tc := ⟨.hbm, 115, rfl⟩
abbrev main_v60 : Ref sig .tc := ⟨.hbm, 116, rfl⟩
abbrev main_v61 : Ref sig .tc := ⟨.hbm, 117, rfl⟩
abbrev main_v62 : Ref sig .tc := ⟨.hbm, 118, rfl⟩
abbrev main_v63 : Ref sig .tc := ⟨.hbm, 119, rfl⟩
abbrev main_v64 : Ref sig .tc := ⟨.hbm, 120, rfl⟩
abbrev main_v65 : Ref sig .tc := ⟨.hbm, 121, rfl⟩
abbrev main_v66 : Ref sig .tc := ⟨.hbm, 122, rfl⟩
abbrev main_v67 : Ref sig .tc := ⟨.hbm, 123, rfl⟩
abbrev main_v68 : Ref sig .tc := ⟨.hbm, 124, rfl⟩
abbrev main_v69 : Ref sig .tc := ⟨.hbm, 125, rfl⟩
abbrev main_v70 : Ref sig .tc := ⟨.hbm, 126, rfl⟩
abbrev main_v71 : Ref sig .tc := ⟨.hbm, 127, rfl⟩
abbrev main_v72 : Ref sig .tc := ⟨.hbm, 128, rfl⟩
abbrev main_v73 : Ref sig .tc := ⟨.hbm, 129, rfl⟩
abbrev main_v74 : Ref sig .tc := ⟨.hbm, 130, rfl⟩
abbrev main_v75 : Ref sig .tc := ⟨.hbm, 131, rfl⟩
abbrev main_v76 : Ref sig .tc := ⟨.hbm, 132, rfl⟩
abbrev main_v77 : Ref sig .tc := ⟨.hbm, 133, rfl⟩
abbrev main_v78 : Ref sig .tc := ⟨.hbm, 134, rfl⟩
abbrev main_v79 : Ref sig .tc := ⟨.hbm, 135, rfl⟩
abbrev main_v80 : Ref sig .tc := ⟨.hbm, 136, rfl⟩
abbrev main_v81 : Ref sig .tc := ⟨.hbm, 137, rfl⟩
abbrev main_v82 : Ref sig .tc := ⟨.hbm, 138, rfl⟩
abbrev main_v83 : Ref sig .tc := ⟨.hbm, 139, rfl⟩
abbrev main_v84 : Ref sig .tc := ⟨.hbm, 140, rfl⟩
abbrev main_cst_8 : Ref sig .tc := ⟨.hbm, 141, rfl⟩
abbrev main_v85 : Ref sig .tc := ⟨.hbm, 142, rfl⟩
abbrev main_v86 : Ref sig .tc := ⟨.hbm, 143, rfl⟩
abbrev main_v87 : Ref sig .tc := ⟨.hbm, 144, rfl⟩
abbrev main_v88 : Ref sig .tc := ⟨.hbm, 145, rfl⟩
abbrev main_v89 : Ref sig .tc := ⟨.hbm, 146, rfl⟩
abbrev main_c_9 : Ref sig .tc := ⟨.hbm, 147, rfl⟩
abbrev main_v90 : Ref sig .tc := ⟨.hbm, 148, rfl⟩
abbrev main_v91 : Ref sig .tc := ⟨.hbm, 149, rfl⟩
abbrev main_v92 : Ref sig .tc := ⟨.hbm, 150, rfl⟩
abbrev main_v93 : Ref sig .tc := ⟨.hbm, 151, rfl⟩
abbrev main_c_10 : Ref sig .tc := ⟨.hbm, 152, rfl⟩
abbrev main_v94 : Ref sig .tc := ⟨.hbm, 153, rfl⟩
abbrev main_v95 : Ref sig .tc := ⟨.hbm, 154, rfl⟩
abbrev main_v96 : Ref sig .tc := ⟨.hbm, 155, rfl⟩
abbrev main_v97 : Ref sig .tc := ⟨.hbm, 156, rfl⟩
abbrev main_v98 : Ref sig .tc := ⟨.hbm, 157, rfl⟩
abbrev main_v99 : Ref sig .tc := ⟨.hbm, 158, rfl⟩
abbrev main_call2_v0 : Ref sig .tc := ⟨.hbm, 159, rfl⟩
abbrev main_v100 : Ref sig .tc := ⟨.hbm, 160, rfl⟩
abbrev main_call3_v0 : Ref sig .tc := ⟨.hbm, 161, rfl⟩
abbrev main_v101 : Ref sig .tc := ⟨.hbm, 162, rfl⟩
abbrev main_cst_11 : Ref sig .tc := ⟨.hbm, 163, rfl⟩
abbrev main_call4_v0 : Ref sig .tc := ⟨.hbm, 164, rfl⟩
abbrev main_call4_v1 : Ref sig .tc := ⟨.hbm, 165, rfl⟩
abbrev main_call4_v2 : Ref sig .tc := ⟨.hbm, 166, rfl⟩
abbrev main_v102 : Ref sig .tc := ⟨.hbm, 167, rfl⟩
abbrev main_cst_12 : Ref sig .tc := ⟨.hbm, 168, rfl⟩
abbrev main_v103 : Ref sig .tc := ⟨.hbm, 169, rfl⟩
abbrev main_cst_13 : Ref sig .tc := ⟨.hbm, 170, rfl⟩
abbrev main_v104 : Ref sig .tc := ⟨.hbm, 171, rfl⟩
abbrev main_v105 : Ref sig .tc := ⟨.hbm, 172, rfl⟩
abbrev main_v106 : Ref sig .tc := ⟨.hbm, 173, rfl⟩
abbrev main_v107 : Ref sig .tc := ⟨.hbm, 174, rfl⟩
abbrev main_v108 : Ref sig .tc := ⟨.hbm, 175, rfl⟩
abbrev main_v109 : Ref sig .tc := ⟨.hbm, 176, rfl⟩
abbrev main_cst_14 : Ref sig .tc := ⟨.hbm, 177, rfl⟩
abbrev main_v110 : Ref sig .tc := ⟨.hbm, 178, rfl⟩
abbrev main_v111 : Ref sig .tc := ⟨.hbm, 179, rfl⟩
abbrev main_v112 : Ref sig .tc := ⟨.hbm, 180, rfl⟩
abbrev main_v113 : Ref sig .tc := ⟨.hbm, 181, rfl⟩
abbrev main_c_15 : Ref sig .tc := ⟨.hbm, 182, rfl⟩
abbrev main_v114 : Ref sig .tc := ⟨.hbm, 183, rfl⟩
abbrev main_v115 : Ref sig .tc := ⟨.hbm, 184, rfl⟩
abbrev main_cst_16 : Ref sig .tc := ⟨.hbm, 185, rfl⟩
abbrev main_call5_v0 : Ref sig .tc := ⟨.hbm, 186, rfl⟩
abbrev main_call5_v1 : Ref sig .tc := ⟨.hbm, 187, rfl⟩
abbrev main_call5_v2 : Ref sig .tc := ⟨.hbm, 188, rfl⟩
abbrev main_v116 : Ref sig .tc := ⟨.hbm, 189, rfl⟩
abbrev main_cst_17 : Ref sig .tc := ⟨.hbm, 190, rfl⟩
abbrev main_v117 : Ref sig .tc := ⟨.hbm, 191, rfl⟩
abbrev main_c_18 : Ref sig .tc := ⟨.hbm, 192, rfl⟩
abbrev main_v118 : Ref sig .tc := ⟨.hbm, 193, rfl⟩
abbrev main_v119 : Ref sig .tc := ⟨.hbm, 194, rfl⟩
abbrev main_cst_19 : Ref sig .tc := ⟨.hbm, 195, rfl⟩
abbrev main_call6_v0 : Ref sig .tc := ⟨.hbm, 196, rfl⟩
abbrev main_call6_v1 : Ref sig .tc := ⟨.hbm, 197, rfl⟩
abbrev main_call6_v2 : Ref sig .tc := ⟨.hbm, 198, rfl⟩
abbrev main_v120 : Ref sig .tc := ⟨.hbm, 199, rfl⟩
abbrev main_cst_20 : Ref sig .tc := ⟨.hbm, 200, rfl⟩
abbrev main_v121 : Ref sig .tc := ⟨.hbm, 201, rfl⟩
abbrev main_c_21 : Ref sig .tc := ⟨.hbm, 202, rfl⟩
abbrev main_v122 : Ref sig .tc := ⟨.hbm, 203, rfl⟩
abbrev main_v123 : Ref sig .tc := ⟨.hbm, 204, rfl⟩
abbrev main_cst_22 : Ref sig .tc := ⟨.hbm, 205, rfl⟩
abbrev main_call7_v0 : Ref sig .tc := ⟨.hbm, 206, rfl⟩
abbrev main_call7_v1 : Ref sig .tc := ⟨.hbm, 207, rfl⟩
abbrev main_call7_v2 : Ref sig .tc := ⟨.hbm, 208, rfl⟩
abbrev main_v124 : Ref sig .tc := ⟨.hbm, 209, rfl⟩
abbrev main_cst_23 : Ref sig .tc := ⟨.hbm, 210, rfl⟩
abbrev main_v125 : Ref sig .tc := ⟨.hbm, 211, rfl⟩
abbrev main_v126 : Ref sig .tc := ⟨.hbm, 212, rfl⟩
abbrev main_v127 : Ref sig .tc := ⟨.hbm, 213, rfl⟩
abbrev main_v128 : Ref sig .tc := ⟨.hbm, 214, rfl⟩
abbrev main_v129 : Ref sig .tc := ⟨.hbm, 215, rfl⟩
abbrev main_v130 : Ref sig .tc := ⟨.hbm, 216, rfl⟩
abbrev main_v131 : Ref sig .tc := ⟨.hbm, 217, rfl⟩
abbrev main_v132 : Ref sig .tc := ⟨.hbm, 218, rfl⟩
abbrev main_v133 : Ref sig .tc := ⟨.hbm, 219, rfl⟩
abbrev main_v134 : Ref sig .tc := ⟨.hbm, 220, rfl⟩
abbrev main_v135 : Ref sig .tc := ⟨.hbm, 221, rfl⟩
abbrev main_v136 : Ref sig .tc := ⟨.hbm, 222, rfl⟩
abbrev main_v137 : Ref sig .tc := ⟨.hbm, 223, rfl⟩
abbrev main_v138 : Ref sig .tc := ⟨.hbm, 224, rfl⟩
abbrev main_v139 : Ref sig .tc := ⟨.hbm, 225, rfl⟩
abbrev main_v140 : Ref sig .tc := ⟨.hbm, 226, rfl⟩
abbrev main_v141 : Ref sig .tc := ⟨.hbm, 227, rfl⟩
abbrev main_v142 : Ref sig .tc := ⟨.hbm, 228, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := .none

abbrev stage0_0 : Fin 1 → Memref sig .tc .vmem S3x4x512x12x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4x512x2x128 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4x512x2x128 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S3x4x512x12x128 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S3x4x512x12x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S3x4x512x12x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S4x512x2x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S4x512x2x128 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
-- ==== Proof.Scale.lean ====
/- The scale of a row, two ways. The kernel counts how many powers of two are not above `a = max |q| / 448`, which gives the
   exponent field of `a`, and builds the bits of the scale and of its reciprocal from it; the reference raises two to
   `⌊log a / log 2⌋ + 1`. Below 2^126 the two agree. -/
module

public import Idealize.ShloMosaic.PureOps.Ideal.Laws
public import Mathlib.Analysis.SpecialFunctions.Log.Basic

@[expose] public section

noncomputable section

namespace Cert.Scale

open Idealize.ShloMosaic

/-! ### The kernel's way -/

/-- How many of the 256 powers are not above `a`. -/
def count (a : EReal) : BitVec 32 :=
  Finset.fold IntOp.addi (0#32)
    (fun x : Fin 256 => BitVec.setWidth 32 (BitVec.ofBool
      (decide (Ideal.ofBits FTy.f32 (IntOp.shli ArithUnit.vector (BitVec.ofNat 32 x.val) 23#32) ≤ a))))
    Finset.univ

/-- The exponent field of `a`, in place. -/
def fieldOf (n : BitVec 32) : BitVec 32 := IntOp.shli ArithUnit.vector (IntOp.subi n 1#32) 23#32

/-- The exponent field of the scale, from the count. -/
def expoOf (n : BitVec 32) : BitVec 32 :=
  Scalar.select (IntOp.cmpi CmpIPredicate.slt (fieldOf n) 8388608#32) (127#32)
    (IntOp.addi (IntOp.shrsi ArithUnit.vector (fieldOf n) 23#32) 1#32)

/-- The kernel's scale. -/
def kscale (a : EReal) : EReal := Ideal.ofBits FTy.f32 (IntOp.shli ArithUnit.vector (expoOf (count a)) 23#32)

/-- The kernel's reciprocal of the scale. -/
def kinv (a : EReal) : EReal :=
  Ideal.ofBits FTy.f32 (IntOp.shli ArithUnit.vector (IntOp.subi (254#32) (expoOf (count a))) 23#32)

/-! ### The reference's way -/

/-- Two. -/
def two : EReal := Ideal.ofBits FTy.f32 0x40000000#32

/-- The exponent of the scale. -/
def exponent (a : EReal) : EReal :=
  Scalar.select (BitVec.ofBool (decide (a < Ideal.ofBits FTy.f32 0x00800000#32))) 0
    (Ideal.liftRound Int.floor (Ideal.div (Ideal.log a) (Ideal.log two)) + Ideal.ofBits FTy.f32 0x3F800000#32)

/-- The scale. -/
def scale (a : EReal) : EReal := Ideal.pow two (exponent a)

/-- Its reciprocal. -/
def inv (a : EReal) : EReal := Ideal.pow two (0 - exponent a)

/-! ### The powers -/

/-- The `k`-th power the kernel compares with. -/
def power (k : ℕ) : EReal := Ideal.ofBits FTy.f32 (IntOp.shli ArithUnit.vector (BitVec.ofNat 32 k) 23#32)

/-- The sign, exponent and fraction fields of the words shifted into the exponent field. -/
theorem fields : ∀ k : Fin 256, (BitVec.extractLsb' 31 1 (IntOp.shli ArithUnit.vector (BitVec.ofNat 32 k.val) 23#32) = 0#1)
    ∧ (BitVec.extractLsb' 23 8 (IntOp.shli ArithUnit.vector (BitVec.ofNat 32 k.val) 23#32)).toNat = k.val
    ∧ (BitVec.extractLsb' 0 23 (IntOp.shli ArithUnit.vector (BitVec.ofNat 32 k.val) 23#32)).toNat = 0 := by
  decide +kernel

/-- The first power is zero. -/
theorem power_zero : power 0 = 0 := by
  obtain ⟨h1, h2, h3⟩ := fields 0
  simp only [Fin.val_zero, Fin.coe_ofNat_eq_mod, Nat.zero_mod] at h1 h2 h3
  simp [power, Ideal.ofBits, Ideal.ieee, h1, h2, h3]

/-- The last is infinity. -/
theorem power_last : power 255 = ⊤ := by
  obtain ⟨h1, h2, h3⟩ := fields 255
  have e : ((255 : Fin 256) : ℕ) = 255 := rfl
  rw [e] at h1 h2 h3
  simp [power, Ideal.ofBits, Ideal.ieee, h1, h2, h3]

/-- Those between are the powers of two. -/
theorem power_mid (k : ℕ) (h0 : 0 < k) (h1 : k < 255) : power k = (((2 : ℝ) ^ ((k : ℤ) - 127) : ℝ) : EReal) := by
  obtain ⟨e1, e2, e3⟩ := fields ⟨k, by omega⟩
  simp only at e1 e2 e3
  simp only [power, Ideal.ofBits, Ideal.ieee, e1, e2, e3]
  rw [if_neg (by omega), if_neg (by omega)]
  refine congrArg Real.toEReal ?_
  have e : (k : ℤ) - (2 ^ (8 - 1) - 1) - ((23 : ℕ) : ℤ) = ((k : ℤ) - 127) + (-23 : ℤ) := by norm_num; omega
  rw [e, zpow_add₀ (by norm_num : (2 : ℝ) ≠ 0)]
  generalize (2 : ℝ) ^ ((k : ℤ) - 127) = w
  norm_num
  ring

/-- The powers increase. -/
theorem power_mono {j k : ℕ} (h : j ≤ k) (hk : k < 256) : power j ≤ power k := by
  rcases Nat.eq_zero_or_pos j with rfl | hj
  · rw [power_zero]
    rcases Nat.eq_zero_or_pos k with rfl | hk0
    · rw [power_zero]
    · by_cases h2 : k = 255
      · subst h2; rw [power_last]; exact le_top
      · rw [power_mid k hk0 (by omega)]; exact EReal.coe_nonneg.mpr (by positivity)
  · by_cases h2 : k = 255
    · subst h2; rw [power_last]; exact le_top
    · rw [power_mid k (by omega) (by omega), power_mid j hj (by omega)]
      exact EReal.coe_le_coe_iff.mpr (zpow_le_zpow_right₀ (by norm_num) (by omega))

/-- Between two neighbours the count is known. -/
theorem count_of (a : EReal) (n : ℕ) (hn : n < 255) (lo : power n ≤ a) (hi : a < power (n + 1)) :
    count a = BitVec.ofNat 32 (n + 1) := by
  have key : ∀ n : Fin 256, Finset.fold IntOp.addi (0#32)
      (fun x : Fin 256 => BitVec.setWidth 32 (BitVec.ofBool (decide (x.val ≤ n.val)))) Finset.univ = BitVec.ofNat 32 (n.val + 1) := by
    decide +kernel
  rw [← key ⟨n, by omega⟩]
  unfold count
  congr 1
  funext x
  have : (power x.val ≤ a) ↔ (x.val ≤ n) := by
    constructor
    · intro h
      by_contra hc
      exact absurd (lt_of_lt_of_le hi (power_mono (by omega : n + 1 ≤ x.val) x.isLt)) (not_lt.mpr h)
    · intro h; exact le_trans (power_mono h (by omega)) lo
  exact congrArg (fun b => BitVec.setWidth 32 (BitVec.ofBool b)) (decide_eq_decide.mpr this)

/-- The scale's exponent field, from the count. -/
theorem expo_of : ∀ n : Fin 254, expoOf (BitVec.ofNat 32 (n.val + 1)) = BitVec.ofNat 32 (if n.val = 0 then 127 else n.val + 1) := by
  decide +kernel

/-- The reciprocal's exponent field. -/
theorem neg_of : ∀ n : Fin 254, IntOp.subi (254#32) (BitVec.ofNat 32 (if n.val = 0 then 127 else n.val + 1))
    = BitVec.ofNat 32 (254 - (if n.val = 0 then 127 else n.val + 1)) := by
  decide +kernel

/-- The word of two. -/
theorem two_eq : two = ((2 : ℝ) : EReal) := by
  rw [two, show (0x40000000#32 : BitVec 32) = IntOp.shli ArithUnit.vector (BitVec.ofNat 32 128) 23#32 by decide]
  have := power_mid 128 (by norm_num) (by norm_num)
  rw [power] at this; rw [this]; norm_num

/-- The word of the least normal number. -/
theorem least_eq : Ideal.ofBits FTy.f32 0x00800000#32 = power 1 := by
  rw [power, show (0x00800000#32 : BitVec 32) = IntOp.shli ArithUnit.vector (BitVec.ofNat 32 1) 23#32 by decide]

/-- The word of one. -/
theorem one_eq : Ideal.ofBits FTy.f32 0x3F800000#32 = ((1 : ℝ) : EReal) := by
  rw [show (0x3F800000#32 : BitVec 32) = IntOp.shli ArithUnit.vector (BitVec.ofNat 32 127) 23#32 by decide]
  have := power_mid 127 (by norm_num) (by norm_num)
  rw [power] at this; rw [this]; norm_num

/-- Two to a whole exponent. -/
theorem pow_two_int (z : ℤ) : Ideal.pow two (((z : ℝ) : ℝ) : EReal) = (((2 : ℝ) ^ z : ℝ) : EReal) := by
  rw [two_eq]
  show ((Real.rpow 2 (z : ℝ) : ℝ) : EReal) = _
  congr 1
  exact Real.rpow_intCast 2 z

/-- A scale field `e` from 1 to 253 gives both sides. -/
theorem both (a : EReal) (n : ℕ) (hn : n < 253) (z : ℤ) (hc : count a = BitVec.ofNat 32 (n + 1))
    (hz : z = (if n = 0 then 127 else n + 1 : ℕ) - 127) (he : exponent a = (((z : ℝ) : ℝ) : EReal)) :
    kscale a = scale a ∧ kinv a = inv a := by
  have h1 := expo_of ⟨n, by omega⟩
  have h2 := neg_of ⟨n, by omega⟩
  simp only at h1 h2
  have hb : 0 < (if n = 0 then 127 else n + 1) ∧ (if n = 0 then 127 else n + 1) < 254 := by split <;> omega
  generalize (if n = 0 then 127 else n + 1 : ℕ) = e at h1 h2 hz hb
  constructor
  · rw [kscale, hc, h1, scale, he, pow_two_int, hz]
    have := power_mid e hb.1 (by omega)
    rwa [power] at this
  · rw [kinv, hc, h1, h2, inv, he]
    have : (0 : EReal) - (((z : ℝ) : ℝ) : EReal) = ((((-z : ℤ) : ℝ) : ℝ) : EReal) := by
      rw [zero_sub, Int.cast_neg]; rfl
    rw [this, pow_two_int, hz]
    have h3 := power_mid (254 - e) (by omega) (by omega)
    rw [power] at h3
    rw [h3, show ((254 - e : ℕ) : ℤ) - 127 = -((e : ℤ) - 127) by omega]

/-- From zero up to 2^126 the kernel's scale and reciprocal are the reference's. -/
theorem agree (a : EReal) (h0 : 0 ≤ a) (h1 : a < power 253) : kscale a = scale a ∧ kinv a = inv a := by
  by_cases hs : a < power 1
  · have hc := count_of a 0 (by norm_num) (by rw [power_zero]; exact h0) hs
    refine both a 0 (by norm_num) 0 hc (by norm_num) ?_
    unfold exponent
    rw [least_eq, decide_eq_true hs]
    simp [Scalar.select]
  · have hs' := not_lt.mp hs
    induction a with
    | bot => exact absurd h0 (by simp)
    | top => exact absurd h1 (by simp)
    | coe r =>
      rw [power_mid 1 (by norm_num) (by norm_num)] at hs'
      rw [power_mid 253 (by norm_num) (by norm_num)] at h1
      have hlo : (2 : ℝ) ^ (-126 : ℤ) ≤ r := by
        have := EReal.coe_le_coe_iff.mp hs'
        rwa [show ((1 : ℕ) : ℤ) - 127 = -126 by norm_num] at this
      have hhi : r < (2 : ℝ) ^ (126 : ℤ) := by
        have := EReal.coe_lt_coe_iff.mp h1
        rwa [show ((253 : ℕ) : ℤ) - 127 = 126 by norm_num] at this
      have hpos : 0 < r := lt_of_lt_of_le (by positivity) hlo
      have hl2p : 0 < Real.log 2 := Real.log_pos (by norm_num)
      set z : ℤ := ⌊Real.log r * (Real.log 2)⁻¹⌋ with hzdef
      have f1 : (z : ℝ) * Real.log 2 ≤ Real.log r := by
        have := mul_le_mul_of_nonneg_right (Int.floor_le (Real.log r * (Real.log 2)⁻¹)) hl2p.le
        rwa [inv_mul_cancel_right₀ hl2p.ne'] at this
      have f2 : Real.log r < ((z + 1 : ℤ) : ℝ) * Real.log 2 := by
        have := mul_lt_mul_of_pos_right (Int.lt_floor_add_one (Real.log r * (Real.log 2)⁻¹)) hl2p
        rw [inv_mul_cancel_right₀ hl2p.ne'] at this
        push_cast; exact this
      have l1 : (2 : ℝ) ^ z ≤ r := by
        rw [← Real.log_le_log_iff (by positivity) hpos, Real.log_zpow]; exact f1
      have l2 : r < (2 : ℝ) ^ (z + 1) := by
        rw [← Real.log_lt_log_iff hpos (by positivity), Real.log_zpow]; exact f2
      have z1 : -126 ≤ z := by
        by_contra hc
        exact absurd (lt_of_lt_of_le l2 (zpow_le_zpow_right₀ (by norm_num) (by omega))) (not_lt.mpr hlo)
      have z2 : z < 126 := by
        by_contra hc
        exact absurd (lt_of_le_of_lt l1 hhi) (not_lt.mpr (zpow_le_zpow_right₀ (by norm_num) (by omega)))
      obtain ⟨n, hn⟩ : ∃ n : ℕ, (n : ℤ) = z + 127 := ⟨(z + 127).toNat, by omega⟩
      have hc := count_of (r : EReal) n (by omega)
        (by rw [power_mid n (by omega) (by omega), show (n : ℤ) - 127 = z by omega]; exact EReal.coe_le_coe_iff.mpr l1)
        (by rw [power_mid (n + 1) (by omega) (by omega), show ((n + 1 : ℕ) : ℤ) - 127 = z + 1 by push_cast; omega]; exact EReal.coe_lt_coe_iff.mpr l2)
      refine both _ n (by omega) (z + 1) hc (by rw [if_neg (by omega)]; push_cast; omega) ?_
      unfold exponent
      rw [least_eq, decide_eq_false hs]
      have hl : Ideal.log (r : EReal) = ((Real.log r : ℝ) : EReal) := by
        show (if r ≤ 0 then (⊥ : EReal) else _) = _
        rw [if_neg (not_le.mpr hpos)]
      have hl2 : Ideal.log two = ((Real.log 2 : ℝ) : EReal) := by
        rw [two_eq]; show (if (2 : ℝ) ≤ 0 then (⊥ : EReal) else _) = _
        rw [if_neg (by norm_num)]
      have hne : ((Real.log 2 : ℝ) : EReal) ≠ 0 := by
        exact_mod_cast (Real.log_pos (by norm_num)).ne'
      have hd : Ideal.div (Ideal.log (r : EReal)) (Ideal.log two) = ((Real.log r * (Real.log 2)⁻¹ : ℝ) : EReal) := by
        rw [hl, hl2, Ideal.div, if_neg hne, ← EReal.coe_inv, ← EReal.coe_mul]
      rw [hd, one_eq]
      show ((((⌊Real.log r * (Real.log 2)⁻¹⌋ : ℤ) : ℝ) : ℝ) : EReal) + _ = _
      rw [← hzdef, ← EReal.coe_add]
      push_cast
      rfl

end Cert.Scale

end
-- ==== Proof.Spec.lean ====
/- The mathematics both programs compute, written index by index over the extended reals: the rotated queries, their
   scales and codes, the scores, the softmax and the four results. -/
module

public import proofs.«01_k».proof.Proof.Scale

@[expose] public section

noncomputable section

namespace Cert.Spec

open Idealize.ShloMosaic

/-- The six inputs, as functions of their indices. -/
structure Inputs where
  /-- The queries, by sequence, position and column. -/
  x : Fin 4 → Fin 512 → Fin 1536 → EReal
  /-- Where each position's document starts. -/
  doc : Fin 4 → Fin 512 → BitVec 32
  /-- The keys' codes, by sequence, position, head and column. -/
  k : Fin 4 → Fin 512 → Fin 2 → Fin 128 → EReal
  /-- The keys' scales. -/
  ks : Fin 4 → Fin 512 → Fin 2 → EReal
  /-- The values' codes. -/
  v : Fin 4 → Fin 512 → Fin 2 → Fin 128 → EReal
  /-- The values' scales. -/
  vs : Fin 4 → Fin 512 → Fin 2 → EReal

/-! ### Integers -/

/-- The remainder by the chunk length, of the divisor's sign. -/
def modulo (x : BitVec 32) : BitVec 32 :=
  Scalar.select
    (IntOp.andi
      (IntOp.cmpi .ne (IntOp.cmpi .slt (IntOp.remsi .host x 112#32) 0#32) (IntOp.cmpi .slt 112#32 0#32))
      (IntOp.cmpi .ne (IntOp.remsi .host x 112#32) 0#32))
    (IntOp.addi (IntOp.remsi .host x 112#32) 112#32) (IntOp.remsi .host x 112#32)

/-- The sign of a word. -/
def sign (x : BitVec 32) : BitVec 32 := if x = 0 then 0 else if x.msb then -1 else 1

/-- The quotient by the chunk length, rounded down. -/
def quotient (x : BitVec 32) : BitVec 32 :=
  Scalar.select
    (IntOp.andi (IntOp.cmpi .ne (sign x) (sign 112#32)) (IntOp.cmpi .ne (IntOp.remsi .host x 112#32) 0#32))
    (IntOp.subi (IntOp.divsi .host x 112#32) 1#32) (IntOp.divsi .host x 112#32)

/-! ### Angles -/

/-- The frequency of a pair of columns. -/
def freq (j : Fin 64) : EReal :=
  Ideal.div 1
    (Ideal.pow (Ideal.ofBits FTy.f32 0x49742400#32)
      (Ideal.div (Ideal.ofBits FTy.f32 0x40000000#32 * FloatOps.sitofp (F := Ideal) FTy.f32 (BitVec.ofNat 32 j.val))
        (Ideal.ofBits FTy.f32 0x43000000#32)))

/-- The position a rotation turns a query by: of the same chunk, of the next chunk, of all later chunks. -/
def position (c : Fin 3) (t : BitVec 32) : BitVec 32 :=
  if c.val < 1 then t else if c.val - 1 < 1 then IntOp.minsi (IntOp.addi 112#32 t) 159#32 else 159#32

/-- The angle of a pair of columns. -/
def angle (c : Fin 3) (t : BitVec 32) (j : Fin 64) : EReal := FloatOps.sitofp (F := Ideal) FTy.f32 (position c t) * freq j

/-! ### Rows -/

/-- A row rotated: its halves as the two coordinates, by the angles `a`. -/
def rotate (x : Fin 128 → EReal) (a : Fin 64 → EReal) (j : Fin 128) : EReal :=
  if h : j.val < 64 then
    x ⟨j.val, by omega⟩ * Ideal.cos (a ⟨j.val, h⟩) - x ⟨64 + j.val, by omega⟩ * Ideal.sin (a ⟨j.val, h⟩)
  else
    x ⟨64 + (j.val - 64), by omega⟩ * Ideal.cos (a ⟨j.val - 64, by omega⟩) + x ⟨j.val - 64, by omega⟩ * Ideal.sin (a ⟨j.val - 64, by omega⟩)

/-- A row's largest magnitude over 448. -/
def top (q : Fin 128 → EReal) : EReal :=
  Finset.fold max (Ideal.ofBits FTy.f32 0xFF800000#32) (fun j => FloatOps.absf (F := Ideal) (φ := .f32) (q j)) Finset.univ * Ideal.ofBits FTy.f32 0x3B124925#32

/-- A row's scale. -/
def scale (q : Fin 128 → EReal) : EReal := Scale.scale (top q)

/-- A row's codes. -/
def code (q : Fin 128 → EReal) (j : Fin 128) : EReal :=
  min (Ideal.ofBits FTy.f32 0x43E00000#32) (max (Ideal.ofBits FTy.f32 0xC3E00000#32) (q j * Scale.inv (top q)))

/-- The product of a row's codes with a key's codes, times the row's scale. -/
def score (q k : Fin 128 → EReal) : EReal := (∑ j, code q j * k j) * scale q

/-- The exponentials of a row of scores less the largest. -/
def expd (s : Fin 512 → EReal) (t : Fin 512) : EReal := Ideal.exp (s t - Finset.fold max (Ideal.ofBits FTy.f32 0xFF800000#32) s Finset.univ)

/-- The softmax of a row of scores. -/
def softmax (s : Fin 512 → EReal) (t : Fin 512) : EReal := Ideal.div (expd s t) (∑ u, expd s u)

/-- Which of the weights count towards the mass `c`: those of the same chunk, of the next chunk, of all later chunks. -/
def counts (c : Fin 3) (d : BitVec 32) : BitVec 1 :=
  if c.val = 0 then IntOp.cmpi .eq d 0#32 else if c.val = 1 then IntOp.cmpi .eq d 1#32 else IntOp.cmpi .sge d 2#32

/-! ### The results -/

variable (I : Inputs)

/-- A position less its document's start. -/
def rel (b : Fin 4) (s : Fin 512) : BitVec 32 := IntOp.subi (BitVec.ofNat 32 s.val) (I.doc b s)

/-- The number of chunks between a query and a key. -/
def dist (b : Fin 4) (s t : Fin 512) : BitVec 32 := IntOp.subi (quotient (rel I b s)) (quotient (rel I b t))

/-- Whether a query sees a key: it is not later, and of the same document. -/
def visible (b : Fin 4) (s t : Fin 512) : BitVec 1 :=
  IntOp.andi (IntOp.cmpi .sle (BitVec.ofNat 32 t.val) (BitVec.ofNat 32 s.val)) (IntOp.cmpi .eq (I.doc b s) (I.doc b t))

/-- A head's query under the rotation `c`. -/
def query (c : Fin 3) (b : Fin 4) (s : Fin 512) (h : Fin 12) : Fin 128 → EReal :=
  rotate (fun j => I.x b s ⟨128 * h.val + j.val, by omega⟩) (angle c (modulo (rel I b s)))

/-- The key-value head of a head. -/
def kv (h : Fin 12) : Fin 2 := ⟨h.val / 6, by omega⟩

/-- A row of masked scores. -/
def masked (b : Fin 4) (s : Fin 512) (h : Fin 12) (t : Fin 512) : EReal :=
  Scalar.select (visible I b s t)
    (Scalar.select (IntOp.cmpi .eq (dist I b s t) 0#32) (score (query I 0 b s h) (I.k b t (kv h)))
        (Scalar.select (IntOp.cmpi .eq (dist I b s t) 1#32) (score (query I 1 b s h) (I.k b t (kv h)))
          (score (query I 2 b s h) (I.k b t (kv h))))
      * (I.ks b t (kv h) * Ideal.ofBits FTy.f32 0x3DB504F3#32))
    (Ideal.ofBits FTy.f32 0xFF800000#32)

/-- The attention weights of a query. -/
def weights (b : Fin 4) (s : Fin 512) (h : Fin 12) : Fin 512 → EReal := softmax (masked I b s h)

/-- The output. -/
def out (b : Fin 4) (s : Fin 512) (h : Fin 12) (l : Fin 128) : EReal :=
  ∑ t, weights I b s h t * I.vs b t (kv h) * I.v b t (kv h) l

/-- The mass. -/
def mass (c : Fin 3) (b : Fin 4) (s : Fin 512) (h : Fin 12) : EReal :=
  ∑ t, Scalar.select (counts c (dist I b s t)) (weights I b s h t) 0

/-- The queries' codes. -/
def codes (c : Fin 3) (b : Fin 4) (s : Fin 512) (h : Fin 12) (l : Fin 128) : EReal := code (query I c b s h) l

/-- The queries' scales. -/
def scales (c : Fin 3) (b : Fin 4) (s : Fin 512) (h : Fin 12) : EReal := scale (query I c b s h)

end Cert.Spec

end
-- ==== Proof.Host.lean ====
/- What the host operations before the kernel's region leave in the arrays the region reads, at an index: the cosines
   and sines of the rotations, the documents and chunks, the keys and the values. -/
module

public import proofs.«01_k».proof.Proof.Gen.KernelIdeal.Frame
public import proofs.«01_k».proof.Proof.Spec
public import Idealize.ShloMosaic.Lib.Pointwise
public import Idealize.ShloMosaic.Lib.Claim

@[expose] public section

set_option maxRecDepth 16384

noncomputable section

namespace Cert.KernelHost

open Cert.KernelIdeal Cert.KernelIdeal.Facts Cert.KernelIdeal.Facts₀ Idealize.ShloMosaic Idealize.ShloMosaic.TcCoe Idealize.SL.Sem
open Cert.KernelIdeal.Gen (hostOps0 hostOps0_1 hostOps0_2 hostOps0_3 hostOps0_4)

/-- The inputs an assignment of contents to the buffers holds. -/
def inputs (M : Valuation τ sig (Elt Ideal)) : Spec.Inputs where
  x b s j := (M main_arg0 : Vec Ideal S4x512x1536 .bf16) (ix3 b s j)
  doc b s := (M main_arg1 : Vec Ideal S4x512 .i32) (ix2 b s)
  k b t g j := (M main_arg2 : Vec Ideal S4x512x2x128 .fp8e4m3) (ix4 b t g j)
  ks b t g := (M main_arg3 : Vec Ideal S4x512x2 .f32) (ix3 b t g)
  v b t g j := (M main_arg4 : Vec Ideal S4x512x2x128 .fp8e4m3) (ix4 b t g j)
  vs b t g := (M main_arg5 : Vec Ideal S4x512x2 .f32) (ix3 b t g)

variable (U : Valuation τ sig (Elt Ideal))

/-! ### The first operations: positions less their documents' starts -/

/-- What the operations leave as each position less its document's start. -/
theorem rel_at (b : Fin 4) (s : Fin 512) :
    (show Vec Ideal S4x512 .i32 from StableHlo.after hostOps0 U main_v3) (ix2 b s) = Spec.rel (inputs U) b s := by
  after_results_simp
  pointwise
  rfl

/-- The first part leaves the chunk length. -/
theorem length_at : (show Vec Ideal S_ .i32 from StableHlo.after hostOps0 U main_c) = constantI S_ 32 112#32 := by
  after_results_simp

/-- The first part keeps the keys' codes. -/
theorem keep0_arg2 : StableHlo.after hostOps0 U main_arg2 = U main_arg2 := by after_results_simp
/-- The first part keeps the keys' scales. -/
theorem keep0_arg3 : StableHlo.after hostOps0 U main_arg3 = U main_arg3 := by after_results_simp
/-- The first part keeps the values' codes. -/
theorem keep0_arg4 : StableHlo.after hostOps0 U main_arg4 = U main_arg4 := by after_results_simp
/-- The first part keeps the values' scales. -/
theorem keep0_arg5 : StableHlo.after hostOps0 U main_arg5 = U main_arg5 := by after_results_simp
/-- The first part keeps the documents' starts. -/
theorem keep0_arg1 : StableHlo.after hostOps0 U main_arg1 = U main_arg1 := by after_results_simp

/-! ### The remainder -/

/-- The remainder by the chunk length. -/
theorem modulo_at (b : Fin 4) (s : Fin 512) (h : (U main_c : Vec Ideal S_ .i32) = constantI S_ 32 112#32) :
    (show Vec Ideal S4x512 .i32 from StableHlo.after hostOps0_1 U main_v4) (ix2 b s)
      = Spec.modulo ((U main_v3 : Vec Ideal S4x512 .i32) (ix2 b s)) := by
  after_results_simp
  rw [h]
  rfl

/-- The second part keeps the positions less their documents' starts. -/
theorem keep1_v3 : StableHlo.after hostOps0_1 U main_v3 = U main_v3 := by after_results_simp
/-- The second part keeps the keys' codes. -/
theorem keep1_arg2 : StableHlo.after hostOps0_1 U main_arg2 = U main_arg2 := by after_results_simp
/-- The second part keeps the keys' scales. -/
theorem keep1_arg3 : StableHlo.after hostOps0_1 U main_arg3 = U main_arg3 := by after_results_simp
/-- The second part keeps the values' codes. -/
theorem keep1_arg4 : StableHlo.after hostOps0_1 U main_arg4 = U main_arg4 := by after_results_simp
/-- The second part keeps the values' scales. -/
theorem keep1_arg5 : StableHlo.after hostOps0_1 U main_arg5 = U main_arg5 := by after_results_simp
/-- The second part keeps the documents' starts. -/
theorem keep1_arg1 : StableHlo.after hostOps0_1 U main_arg1 = U main_arg1 := by after_results_simp

/-! ### The angles -/

/-- The first operations of the angles: the three positions. -/
abbrev ops2a : List (HloOp τ sig (Elt Ideal)) := hostOps0_2.take 11
/-- The next: the angles. -/
abbrev ops2b : List (HloOp τ sig (Elt Ideal)) := (hostOps0_2.drop 11).take 23
/-- The last: their cosines and sines. -/
abbrev ops2c : List (HloOp τ sig (Elt Ideal)) := hostOps0_2.drop 34

/-- The operations of the angles are these three parts, one after another. -/
theorem ops2_split : (hostOps0_2 : List (HloOp τ sig (Elt Ideal))) = ops2a ++ ops2b ++ ops2c := rfl

/-- The first position is the place within the chunk. -/
theorem first_at (b : Fin 4) (s : Fin 512) :
    (show Vec Ideal S1x4x512 .i32 from StableHlo.after ops2a U main_v10) (ix3 0 b s) = (U main_v4 : Vec Ideal S4x512 .i32) (ix2 b s) := by
  simp only [ops2a, hostOps0_2, List.take]
  after_results_simp
  pointwise

/-- The second position is one chunk further, but at most 159. -/
theorem second_at (b : Fin 4) (s : Fin 512) :
    (show Vec Ideal S1x4x512 .i32 from StableHlo.after ops2a U main_v11) (ix3 0 b s)
      = IntOp.minsi (IntOp.addi 112#32 ((U main_v4 : Vec Ideal S4x512 .i32) (ix2 b s))) 159#32 := by
  simp only [ops2a, hostOps0_2, List.take]
  after_results_simp
  pointwise

/-- The third position is 159. -/
theorem third_at (b : Fin 4) (s : Fin 512) :
    (show Vec Ideal S1x4x512 .i32 from StableHlo.after ops2a U main_v12) (ix3 0 b s) = 159#32 := by
  simp only [ops2a, hostOps0_2, List.take]
  after_results_simp
  pointwise

/-- The angles, from the three positions. -/
theorem angle_at (c : Fin 3) (b : Fin 4) (s : Fin 512) (j : Fin 64) (t : BitVec 32)
    (h0 : (U main_v10 : Vec Ideal S1x4x512 .i32) (ix3 0 b s) = t)
    (h1 : (U main_v11 : Vec Ideal S1x4x512 .i32) (ix3 0 b s) = IntOp.minsi (IntOp.addi 112#32 t) 159#32)
    (h2 : (U main_v12 : Vec Ideal S1x4x512 .i32) (ix3 0 b s) = 159#32) :
    (show Vec Ideal S3x4x512x64 .f32 from StableHlo.after ops2b U main_v30) (ix4 c b s j) = Spec.angle c t j := by
  simp only [ops2b, hostOps0_2, List.take, List.drop]
  after_results_simp
  pointwise
  fin_cases c
  · exact congrArg (fun p => FloatOps.sitofp (F := Ideal) FTy.f32 p * Spec.freq j) h0
  · exact congrArg (fun p => FloatOps.sitofp (F := Ideal) FTy.f32 p * Spec.freq j) h1
  · exact congrArg (fun p => FloatOps.sitofp (F := Ideal) FTy.f32 p * Spec.freq j) h2

/-- The cosines, of which each half of the columns has a copy. -/
theorem cos_at (c : Fin 3) (b : Fin 4) (s : Fin 512) (j : Fin 128) :
    (show Vec Ideal S3x4x512x128 .f32 from StableHlo.after ops2c U main_v32) (ix4 c b s j)
      = if h : j.val < 64 then Ideal.cos ((U main_v30 : Vec Ideal S3x4x512x64 .f32) (ix4 c b s ⟨j.val, h⟩))
        else Ideal.cos ((U main_v30 : Vec Ideal S3x4x512x64 .f32) (ix4 c b s ⟨j.val - 64, by omega⟩)) := by
  simp only [ops2c, hostOps0_2, List.drop]
  after_results_simp
  pointwise

/-- The sines, of which each half of the columns has a copy. -/
theorem sin_at (c : Fin 3) (b : Fin 4) (s : Fin 512) (j : Fin 128) :
    (show Vec Ideal S3x4x512x128 .f32 from StableHlo.after ops2c U main_v34) (ix4 c b s j)
      = if h : j.val < 64 then Ideal.sin ((U main_v30 : Vec Ideal S3x4x512x64 .f32) (ix4 c b s ⟨j.val, h⟩))
        else Ideal.sin ((U main_v30 : Vec Ideal S3x4x512x64 .f32) (ix4 c b s ⟨j.val - 64, by omega⟩)) := by
  simp only [ops2c, hostOps0_2, List.drop]
  after_results_simp
  pointwise

/-- The third part leaves the chunk length. -/
theorem length2_at : (show Vec Ideal S_ .i32 from StableHlo.after ops2c U main_c_7) = constantI S_ 32 112#32 := by
  simp only [ops2c, hostOps0_2, List.drop]
  after_results_simp

/-- The third part keeps the positions less their documents' starts. -/
theorem keep2_v3 : StableHlo.after hostOps0_2 U main_v3 = U main_v3 := by after_results_simp
/-- The third part keeps the keys' codes. -/
theorem keep2_arg2 : StableHlo.after hostOps0_2 U main_arg2 = U main_arg2 := by after_results_simp
/-- The third part keeps the keys' scales. -/
theorem keep2_arg3 : StableHlo.after hostOps0_2 U main_arg3 = U main_arg3 := by after_results_simp
/-- The third part keeps the values' codes. -/
theorem keep2_arg4 : StableHlo.after hostOps0_2 U main_arg4 = U main_arg4 := by after_results_simp
/-- The third part keeps the values' scales. -/
theorem keep2_arg5 : StableHlo.after hostOps0_2 U main_arg5 = U main_arg5 := by after_results_simp
/-- The third part keeps the documents' starts. -/
theorem keep2_arg1 : StableHlo.after hostOps0_2 U main_arg1 = U main_arg1 := by after_results_simp

/-! ### The chunks -/

/-- The quotient of a row of positions by a length, rounded down, as the operations compute it. -/
def floorQuotient (x : IVec S4x512 32) (n : IVec S_ 32) : IVec S4x512 32 :=
  select (andi (cmpi .ne (signi x) (broadcastInDim S4x512 ![] bcast_S_S4x512 (signi n)))
      (cmpi .ne (Host.remsi x (broadcastInDim S4x512 ![] bcast_S_S4x512 n)) (broadcastInDim S4x512 ![] bcast_S_S4x512 (constantI S_ 32 0#32))))
    (subi (Host.divsi x (broadcastInDim S4x512 ![] bcast_S_S4x512 n)) (broadcastInDim S4x512 ![] bcast_S_S4x512 (constantI S_ 32 1#32)))
    (Host.divsi x (broadcastInDim S4x512 ![] bcast_S_S4x512 n))

/-- The same at an index. -/
theorem floorQuotient_at (x : IVec S4x512 32) (b : Fin 4) (s : Fin 512) :
    floorQuotient x (constantI S_ 32 112#32) (ix2 b s) = Spec.quotient (x (ix2 b s)) := by
  rfl

/-- The quotient by the chunk length. -/
theorem quotient_at (b : Fin 4) (s : Fin 512) (h : (U main_c_7 : Vec Ideal S_ .i32) = constantI S_ 32 112#32) :
    (show Vec Ideal S4x512 .i32 from StableHlo.after hostOps0_3 U main_v35) (ix2 b s)
      = Spec.quotient ((U main_v3 : Vec Ideal S4x512 .i32) (ix2 b s)) := by
  have e : (show Vec Ideal S4x512 .i32 from StableHlo.after hostOps0_3 U main_v35)
      = floorQuotient (U main_v3 : Vec Ideal S4x512 .i32) (U main_c_7 : Vec Ideal S_ .i32) := by
    after_results_simp
    rfl
  rw [e, h]
  exact floorQuotient_at _ b s

/-- The fourth part keeps the keys' codes. -/
theorem keep3_arg2 : StableHlo.after hostOps0_3 U main_arg2 = U main_arg2 := by after_results_simp
/-- The fourth part keeps the keys' scales. -/
theorem keep3_arg3 : StableHlo.after hostOps0_3 U main_arg3 = U main_arg3 := by after_results_simp
/-- The fourth part keeps the values' codes. -/
theorem keep3_arg4 : StableHlo.after hostOps0_3 U main_arg4 = U main_arg4 := by after_results_simp
/-- The fourth part keeps the values' scales. -/
theorem keep3_arg5 : StableHlo.after hostOps0_3 U main_arg5 = U main_arg5 := by after_results_simp
/-- The fourth part keeps the documents' starts. -/
theorem keep3_arg1 : StableHlo.after hostOps0_3 U main_arg1 = U main_arg1 := by after_results_simp
/-- The fourth part keeps the cosines. -/
theorem keep3_v32 : StableHlo.after hostOps0_3 U main_v32 = U main_v32 := by after_results_simp
/-- The fourth part keeps the sines. -/
theorem keep3_v34 : StableHlo.after hostOps0_3 U main_v34 = U main_v34 := by after_results_simp

/-! ### The arrays the region reads -/

/-- The fifth part keeps the cosines. -/
theorem keep4_v32 : StableHlo.after hostOps0_4 U main_v32 = U main_v32 := by after_results_simp
/-- The fifth part keeps the sines. -/
theorem keep4_v34 : StableHlo.after hostOps0_4 U main_v34 = U main_v34 := by after_results_simp

/-- The array the queries' places are read from: the document's start and the chunk. -/
theorem places_at (b : Fin 4) (s : Fin 512) (g : Fin 2) :
    (show Vec Ideal S4x512x2 .i32 from StableHlo.after hostOps0_4 U main_v39) (ix3 b s g)
      = if _h : g.val < 1 then (U main_arg1 : Vec Ideal S4x512 .i32) (ix2 b s) else (U main_v35 : Vec Ideal S4x512 .i32) (ix2 b s) := by
  have e : (show Vec Ideal S4x512x2 .i32 from StableHlo.after hostOps0_4 U main_v39) = transpose S4x512x2 [0, 2, 1] (concatenate S4x2x512 1 [⟨S4x1x512, broadcastInDim S4x1x512 ![0, 2] bcast_S4x512_S4x1x512_0_2 (U main_arg1 : Vec Ideal S4x512 .i32)⟩, ⟨S4x1x512, broadcastInDim S4x1x512 ![0, 2] bcast_S4x512_S4x1x512_0_2 (U main_v35 : Vec Ideal S4x512 .i32)⟩] concatenates_S4x1x512_S4x1x512_S4x2x512_d1) transposes_S4x2x512_S4x512x2_0_2_1 := rfl
  rw [e]
  pointwise

/-- The array the keys' places are read from: the document's start and the chunk. -/
theorem keyPlaces_at (b : Fin 4) (s : Fin 512) (g : Fin 2) :
    (show Vec Ideal S4x2x512 .i32 from StableHlo.after hostOps0_4 U main_v38) (ix3 b g s)
      = if _h : g.val < 1 then (U main_arg1 : Vec Ideal S4x512 .i32) (ix2 b s) else (U main_v35 : Vec Ideal S4x512 .i32) (ix2 b s) := by
  have e : (show Vec Ideal S4x2x512 .i32 from StableHlo.after hostOps0_4 U main_v38) = concatenate S4x2x512 1 [⟨S4x1x512, broadcastInDim S4x1x512 ![0, 2] bcast_S4x512_S4x1x512_0_2 (U main_arg1 : Vec Ideal S4x512 .i32)⟩, ⟨S4x1x512, broadcastInDim S4x1x512 ![0, 2] bcast_S4x512_S4x1x512_0_2 (U main_v35 : Vec Ideal S4x512 .i32)⟩] concatenates_S4x1x512_S4x1x512_S4x2x512_d1 := rfl
  rw [e]
  pointwise

/-- The keys' codes with the heads ahead of the positions. -/
theorem keys_at (b : Fin 4) (g : Fin 2) (s : Fin 512) (j : Fin 128) :
    (show Vec Ideal S4x2x512x128 .fp8e4m3 from StableHlo.after hostOps0_4 U main_v40) (ix4 b g s j)
      = (U main_arg2 : Vec Ideal S4x512x2x128 .fp8e4m3) (ix4 b s g j) := by
  after_results_simp
  pointwise

/-- The values' codes with the heads ahead of the positions. -/
theorem values_at (b : Fin 4) (g : Fin 2) (s : Fin 512) (j : Fin 128) :
    (show Vec Ideal S4x2x512x128 .fp8e4m3 from StableHlo.after hostOps0_4 U main_v41) (ix4 b g s j)
      = (U main_arg4 : Vec Ideal S4x512x2x128 .fp8e4m3) (ix4 b s g j) := by
  after_results_simp
  pointwise

/-- The keys' scales with the heads ahead of the positions. -/
theorem keyScales_at (b : Fin 4) (g : Fin 2) (s : Fin 512) :
    (show Vec Ideal S4x2x512 .f32 from StableHlo.after hostOps0_4 U main_v42) (ix3 b g s)
      = (U main_arg3 : Vec Ideal S4x512x2 .f32) (ix3 b s g) := by
  after_results_simp
  pointwise

/-- The values' scales with the heads ahead of the positions. -/
theorem valueScales_at (b : Fin 4) (g : Fin 2) (s : Fin 512) :
    (show Vec Ideal S4x2x512 .f32 from StableHlo.after hostOps0_4 U main_v43) (ix3 b g s)
      = (U main_arg5 : Vec Ideal S4x512x2 .f32) (ix3 b s g) := by
  after_results_simp
  pointwise

/-! ### All the operations -/

/-- The operations before the region, one part after another. -/
theorem parts (M : Valuation τ sig (Elt Ideal)) :
    StableHlo.after (List.flatten [hostOps0, hostOps0_1, hostOps0_2, hostOps0_3, hostOps0_4]) M
      = StableHlo.after hostOps0_4 (StableHlo.after hostOps0_3 (StableHlo.after hostOps0_2 (StableHlo.after hostOps0_1 (StableHlo.after hostOps0 M)))) := by
  rw [show (List.flatten [hostOps0, hostOps0_1, hostOps0_2, hostOps0_3, hostOps0_4] : List (HloOp τ sig (Elt Ideal)))
    = hostOps0 ++ hostOps0_1 ++ hostOps0_2 ++ hostOps0_3 ++ hostOps0_4 from rfl]
  simp only [StableHlo.after_append]

/-- The angles' operations, one part after another. -/
theorem parts2 : StableHlo.after hostOps0_2 U = StableHlo.after ops2c (StableHlo.after ops2b (StableHlo.after ops2a U)) := by
  rw [ops2_split]
  simp only [StableHlo.after_append]

/-- What the angles' operations leave. -/
theorem angles_at (c : Fin 3) (b : Fin 4) (s : Fin 512) (j : Fin 64) :
    (show Vec Ideal S3x4x512x64 .f32 from StableHlo.after ops2b (StableHlo.after ops2a U) main_v30) (ix4 c b s j)
      = Spec.angle c ((U main_v4 : Vec Ideal S4x512 .i32) (ix2 b s)) j :=
  angle_at _ c b s j _ (first_at U b s) (second_at U b s) (third_at U b s)

variable (m : (ℓ : Loc nD τ sig) → Buf (Elt Ideal) ℓ) (d : Dev nD)

/-- The contents a device starts from. -/
abbrev start : Valuation τ sig (Elt Ideal) := fun b => m (d, b)

/-- The remainder of a position less its document's start. -/
theorem modulo_start (b : Fin 4) (s : Fin 512) :
    (show Vec Ideal S4x512 .i32 from StableHlo.after hostOps0_1 (StableHlo.after hostOps0 (start m d)) main_v4) (ix2 b s)
      = Spec.modulo (Spec.rel (inputs (start m d)) b s) :=
  (modulo_at _ b s (length_at _)).trans (congrArg Spec.modulo (rel_at _ b s))

/-- The angle of a rotation. -/
theorem angle_start (c : Fin 3) (b : Fin 4) (s : Fin 512) (j : Fin 64) :
    (show Vec Ideal S3x4x512x64 .f32 from StableHlo.after ops2b (StableHlo.after ops2a (StableHlo.after hostOps0_1 (StableHlo.after hostOps0 (start m d)))) main_v30) (ix4 c b s j)
      = Spec.angle c (Spec.modulo (Spec.rel (inputs (start m d)) b s)) j :=
  (angles_at _ c b s j).trans (congrArg (fun t => Spec.angle c t j) (modulo_start m d b s))

/-- The cosines the region reads. -/
theorem V_cos (c : Fin 3) (b : Fin 4) (s : Fin 512) (j : Fin 128) :
    (show Vec Ideal S3x4x512x128 .f32 from Gen.V m d main_v32) (ix4 c b s j)
      = if h : j.val < 64 then Ideal.cos (Spec.angle c (Spec.modulo (Spec.rel (inputs (start m d)) b s)) ⟨j.val, h⟩)
        else Ideal.cos (Spec.angle c (Spec.modulo (Spec.rel (inputs (start m d)) b s)) ⟨j.val - 64, by omega⟩) := by
  show (show Vec Ideal S3x4x512x128 .f32 from StableHlo.after (List.flatten [hostOps0, hostOps0_1, hostOps0_2, hostOps0_3, hostOps0_4]) (start m d) main_v32) (ix4 c b s j) = _
  rw [parts, keep4_v32, keep3_v32, parts2]
  refine (cos_at _ c b s j).trans ?_
  simp only [← angle_start m d c b s]

/-- The sines the region reads. -/
theorem V_sin (c : Fin 3) (b : Fin 4) (s : Fin 512) (j : Fin 128) :
    (show Vec Ideal S3x4x512x128 .f32 from Gen.V m d main_v34) (ix4 c b s j)
      = if h : j.val < 64 then Ideal.sin (Spec.angle c (Spec.modulo (Spec.rel (inputs (start m d)) b s)) ⟨j.val, h⟩)
        else Ideal.sin (Spec.angle c (Spec.modulo (Spec.rel (inputs (start m d)) b s)) ⟨j.val - 64, by omega⟩) := by
  show (show Vec Ideal S3x4x512x128 .f32 from StableHlo.after (List.flatten [hostOps0, hostOps0_1, hostOps0_2, hostOps0_3, hostOps0_4]) (start m d) main_v34) (ix4 c b s j) = _
  rw [parts, keep4_v34, keep3_v34, parts2]
  refine (sin_at _ c b s j).trans ?_
  simp only [← angle_start m d c b s]

/-- The quotient of a position less its document's start. -/
theorem quotient_start (b : Fin 4) (s : Fin 512) :
    (show Vec Ideal S4x512 .i32 from StableHlo.after hostOps0_3 (StableHlo.after hostOps0_2 (StableHlo.after hostOps0_1 (StableHlo.after hostOps0 (start m d)))) main_v35) (ix2 b s)
      = Spec.quotient (Spec.rel (inputs (start m d)) b s) := by
  refine (quotient_at _ b s ?_).trans (congrArg Spec.quotient ?_)
  · rw [parts2]; exact length2_at _
  · rw [keep2_v3, keep1_v3]; exact rel_at _ b s

/-- The documents before the last operations. -/
theorem doc_start (b : Fin 4) (s : Fin 512) :
    (show Vec Ideal S4x512 .i32 from StableHlo.after hostOps0_3 (StableHlo.after hostOps0_2 (StableHlo.after hostOps0_1 (StableHlo.after hostOps0 (start m d)))) main_arg1) (ix2 b s)
      = (inputs (start m d)).doc b s := by
  rw [keep3_arg1, keep2_arg1, keep1_arg1, keep0_arg1]
  rfl

/-- The documents and chunks of the queries. -/
theorem V_places (b : Fin 4) (s : Fin 512) (g : Fin 2) :
    (show Vec Ideal S4x512x2 .i32 from Gen.V m d main_v39) (ix3 b s g)
      = if _h : g.val < 1 then (inputs (start m d)).doc b s else Spec.quotient (Spec.rel (inputs (start m d)) b s) := by
  show (show Vec Ideal S4x512x2 .i32 from StableHlo.after (List.flatten [hostOps0, hostOps0_1, hostOps0_2, hostOps0_3, hostOps0_4]) (start m d) main_v39) (ix3 b s g) = _
  rw [parts]
  refine (places_at _ b s g).trans ?_
  rw [← quotient_start m d b s, ← doc_start m d b s]

/-- The documents and chunks of the keys. -/
theorem V_keyPlaces (b : Fin 4) (s : Fin 512) (g : Fin 2) :
    (show Vec Ideal S4x2x512 .i32 from Gen.V m d main_v38) (ix3 b g s)
      = if _h : g.val < 1 then (inputs (start m d)).doc b s else Spec.quotient (Spec.rel (inputs (start m d)) b s) := by
  show (show Vec Ideal S4x2x512 .i32 from StableHlo.after (List.flatten [hostOps0, hostOps0_1, hostOps0_2, hostOps0_3, hostOps0_4]) (start m d) main_v38) (ix3 b g s) = _
  rw [parts]
  refine (keyPlaces_at _ b s g).trans ?_
  rw [← quotient_start m d b s, ← doc_start m d b s]

/-- The keys. -/
theorem V_keys (b : Fin 4) (g : Fin 2) (s : Fin 512) (j : Fin 128) :
    (show Vec Ideal S4x2x512x128 .fp8e4m3 from Gen.V m d main_v40) (ix4 b g s j) = (inputs (start m d)).k b s g j := by
  show (show Vec Ideal S4x2x512x128 .fp8e4m3 from StableHlo.after (List.flatten [hostOps0, hostOps0_1, hostOps0_2, hostOps0_3, hostOps0_4]) (start m d) main_v40) (ix4 b g s j) = _
  rw [parts]
  refine (keys_at _ b g s j).trans ?_
  rw [keep3_arg2, keep2_arg2, keep1_arg2, keep0_arg2]
  rfl

/-- The values. -/
theorem V_values (b : Fin 4) (g : Fin 2) (s : Fin 512) (j : Fin 128) :
    (show Vec Ideal S4x2x512x128 .fp8e4m3 from Gen.V m d main_v41) (ix4 b g s j) = (inputs (start m d)).v b s g j := by
  show (show Vec Ideal S4x2x512x128 .fp8e4m3 from StableHlo.after (List.flatten [hostOps0, hostOps0_1, hostOps0_2, hostOps0_3, hostOps0_4]) (start m d) main_v41) (ix4 b g s j) = _
  rw [parts]
  refine (values_at _ b g s j).trans ?_
  rw [keep3_arg4, keep2_arg4, keep1_arg4, keep0_arg4]
  rfl

/-- The keys' scales. -/
theorem V_keyScales (b : Fin 4) (g : Fin 2) (s : Fin 512) :
    (show Vec Ideal S4x2x512 .f32 from Gen.V m d main_v42) (ix3 b g s) = (inputs (start m d)).ks b s g := by
  show (show Vec Ideal S4x2x512 .f32 from StableHlo.after (List.flatten [hostOps0, hostOps0_1, hostOps0_2, hostOps0_3, hostOps0_4]) (start m d) main_v42) (ix3 b g s) = _
  rw [parts]
  refine (keyScales_at _ b g s).trans ?_
  rw [keep3_arg3, keep2_arg3, keep1_arg3, keep0_arg3]
  rfl

/-- The values' scales. -/
theorem V_valueScales (b : Fin 4) (g : Fin 2) (s : Fin 512) :
    (show Vec Ideal S4x2x512 .f32 from Gen.V m d main_v43) (ix3 b g s) = (inputs (start m d)).vs b s g := by
  show (show Vec Ideal S4x2x512 .f32 from StableHlo.after (List.flatten [hostOps0, hostOps0_1, hostOps0_2, hostOps0_3, hostOps0_4]) (start m d) main_v43) (ix3 b g s) = _
  rw [parts]
  refine (valueScales_at _ b g s).trans ?_
  rw [keep3_arg5, keep2_arg5, keep1_arg5, keep0_arg5]
  rfl

/-- The queries. -/
theorem V_queries (b : Fin 4) (s : Fin 512) (j : Fin 1536) :
    (show Vec Ideal S4x512x1536 .bf16 from Gen.V m d main_arg0) (ix3 b s j) = (inputs (start m d)).x b s j := by
  rw [show Gen.V m d main_arg0 = _ from Gen.V_main_arg0 m d]
  rfl

end Cert.KernelHost

end
-- ==== Proof.Block.lean ====
/- What the kernel body computes for ONE head of one block of 128 queries, as functions of the pieces of the input
   blocks it loads: the rotated query, its code and scale, the scores of one rotation, the softmax and the three
   results. Every head of the body is an instance of these (`Proof/Pieces.lean`). -/
module

public import proofs.«01_k».proof.Proof.Gen.KernelIdeal

@[expose] public section

noncomputable section

namespace Cert.Block

open Cert.KernelIdeal Cert.KernelIdeal.Facts Cert.KernelIdeal.Facts₀ Idealize.ShloMosaic

variable {F : FTy → Type} [FloatOps F]

/-- The distance in chunks between each query of the block and each key. -/
def dist (cq : Vec F S1x128x1 .i32) (ck : Vec F S1x1x512 .i32) : IVec S128x512 32 :=
  subi (broadcastTo S128x512 (shapeCast S128x1 cq shapeCasts_S1x128x1_S128x1) broadcasts_S128x1_S128x512)
    (broadcastTo S128x512 (shapeCast S1x512 ck shapeCasts_S1x1x512_S1x512) broadcasts_S1x512_S128x512)

/-- Which keys each query of block `i` may see: not later than it, and of its document. -/
def visible (i : grid0.Coords) (dq : Vec F S1x128x1 .i32) (dk : Vec F S1x1x512 .i32) : IVec S128x512 1 :=
  andi
    (cmpi .sle (iota .tc S128x512 32 [1] iota_S128x512_d1_w32)
      (addi (broadcast S128x512 (Scalar.muli (BitVec.ofNat 32 (i 1).val) 128#32)) (iota .tc S128x512 32 [0] iota_S128x512_d0_w32)))
    (cmpi .eq (broadcastTo S128x512 (shapeCast S128x1 dq shapeCasts_S1x128x1_S128x1) broadcasts_S128x1_S128x512)
      (broadcastTo S128x512 (shapeCast S1x512 dk shapeCasts_S1x1x512_S1x512) broadcasts_S1x512_S128x512))

/-- The numbers with an exponent field and no significand, in every row: 0, 2^-126, …, 2^127, infinity. -/
def powers : FVec F S128x256 .f32 :=
  bitcastToFloat .f32 (shli (iota .tc S128x256 32 [1] iota_S128x256_d1_w32) (broadcast S128x256 23#32))

/-- A head's queries, widened. -/
def wide (xb : Vec F S1x128x128 .bf16) : FVec F S128x128 .f32 :=
  extf .f32 (shapeCast S128x128 xb shapeCasts_S1x128x128_S128x128) bitsLt_bf16_f32

/-- Their halves exchanged, the new first half negated. -/
def swapped (xb : Vec F S1x128x128 .bf16) : FVec F S128x128 .f32 :=
  concatenate S128x128 1
    [⟨S128x64, subf (broadcast S128x64 (Scalar.ofBits .f32 0x00000000#32))
        (extractStridedSlice S128x64 ![0, 64] (wide xb) slices_S128x128_o0_64_S128x64)⟩,
      ⟨S128x64, extractStridedSlice S128x64 ![0, 0] (wide xb) slices_S128x128_o0_0_S128x64⟩]
    concatenates_S128x64_S128x64_S128x128_d1

/-- The queries rotated by the angles of one position. -/
def rotated (xb : Vec F S1x128x128 .bf16) (cb sb : Vec F S1x1x128x128 .f32) : FVec F S128x128 .f32 :=
  addf (mulf (wide xb) (shapeCast S128x128 cb shapeCasts_S1x1x128x128_S128x128))
    (mulf (swapped xb) (shapeCast S128x128 sb shapeCasts_S1x1x128x128_S128x128))

/-- Each row's largest magnitude over 448. -/
def top (q : FVec F S128x128 .f32) : FVec F S128x1 .f32 :=
  mulf (shapeCast S128x1 (multiReduction .maximumf [1] S128 (absf q) 0xFF800000#32 reduces_S128x128_S128 (.inl rfl) rfl) shapeCasts_S128_S128x1)
    (broadcast S128x1 (Scalar.ofBits .f32 0x3B124925#32))

/-- The exponent field of a column, its significand cleared: one less than how many of the powers are not above it. -/
def field (a : FVec F S128x1 .f32) : IVec S128x1 32 :=
  shli
    (subi
      (shapeCast S128x1
        (multiReductionI .add [1] S128
          (extui 32 (cmpf .oge (broadcastTo S128x256 a broadcasts_S128x1_S128x256) (powers (F := F))) natLt_1_32)
          0#32 reduces_S128x256_S128 rfl)
        shapeCasts_S128_S128x1)
      (broadcast S128x1 1#32))
    (broadcast S128x1 23#32)

/-- The exponent field of the scale. -/
def expo (q : FVec F S128x128 .f32) : IVec S128x1 32 :=
  select (cmpi .slt (field (top q)) (broadcast S128x1 8388608#32)) (broadcast S128x1 127#32)
    (addi (shrsi (field (top q)) (broadcast S128x1 23#32)) (broadcast S128x1 1#32))

/-- Each row's scale. -/
def scale (q : FVec F S128x128 .f32) : FVec F S128x1 .f32 :=
  bitcastToFloat .f32 (shli (expo q) (broadcast S128x1 23#32))

/-- The codes: the row times the reciprocal of its scale, clipped. -/
def code (q : FVec F S128x128 .f32) : FVec F S128x128 .fp8e4m3 :=
  truncf .fp8e4m3
    (minimumf (broadcast S128x128 (Scalar.ofBits .f32 0x43E00000#32))
      (maximumf (broadcast S128x128 (Scalar.ofBits .f32 0xC3E00000#32))
        (mulf q (broadcastTo S128x128
          (bitcastToFloat .f32 (shli (subi (broadcast S128x1 254#32) (expo q)) (broadcast S128x1 23#32)))
          broadcasts_S128x1_S128x128))))
    bitsLt_fp8e4m3_f32

/-- The products of the codes with the keys' codes, times the queries' scale. -/
def score (q : FVec F S128x128 .f32) (kb : Vec F S1x1x512x128 .fp8e4m3) : FVec F S128x512 .f32 :=
  mulf
    (matmul dot_S128x128_S512x128_S128x512_1_1_0_0_n_n none (code q) (shapeCast S512x128 kb shapeCasts_S1x1x512x128_S512x128)
      (constant S128x512 .f32 0x00000000#32))
    (broadcastTo S128x512 (scale q) broadcasts_S128x1_S128x512)

/-- The masked scores: of the rotation the distance selects, times the keys' scale, where the key is visible. -/
def masked (d : IVec S128x512 32) (vis : IVec S128x512 1) (s0 s1 s2 : FVec F S128x512 .f32) (ks : Vec F S1x1x512 .f32) :
    FVec F S128x512 .f32 :=
  select vis
    (mulf
      (select (cmpi .eq d (broadcast S128x512 0#32)) s0 (select (cmpi .eq d (broadcast S128x512 1#32)) s1 s2))
      (broadcastTo S128x512
        (mulf (shapeCast S1x512 ks shapeCasts_S1x1x512_S1x512) (broadcast S1x512 (Scalar.ofBits .f32 0x3DB504F3#32)))
        broadcasts_S1x512_S128x512))
    (broadcast S128x512 (Scalar.ofBits .f32 0xFF800000#32))

/-- The exponentials of the scores less the row's largest. -/
def expd (s : FVec F S128x512 .f32) : FVec F S128x512 .f32 :=
  exp (subf s
    (broadcastTo S128x512
      (shapeCast S128x1 (multiReduction .maximumf [1] S128 s 0xFF800000#32 reduces_S128x512_S128 (.inl rfl) rfl) shapeCasts_S128_S128x1)
      broadcasts_S128x1_S128x512))

/-- A row's sum, as a column. -/
def total (p : FVec F S128x512 .f32) : FVec F S128x1 .f32 :=
  shapeCast S128x1 (multiReduction .add [1] S128 p 0x00000000#32 reduces_S128x512_S128 (.inl rfl) rfl) shapeCasts_S128_S128x1

/-- The softmax weights. -/
def weights (s : FVec F S128x512 .f32) : FVec F S128x512 .f32 :=
  divf (expd s) (broadcastTo S128x512 (total (expd s)) broadcasts_S128x1_S128x512)

/-- The weight each query puts on the keys that `c` marks. -/
def mass (c : IVec S128x512 1) (p : FVec F S128x512 .f32) : FVec F S1x1x128x1 .f32 :=
  shapeCast S1x1x128x1 (total (select c p (broadcast S128x512 (Scalar.ofBits .f32 0x00000000#32)))) shapeCasts_S128x1_S1x1x128x1

/-- The head's output: the weights times the values' scale, against the values. -/
def output (p : FVec F S128x512 .f32) (vs : Vec F S1x1x512 .f32) (vb : Vec F S1x1x512x128 .fp8e4m3) : FVec F S1x128x128 .bf16 :=
  shapeCast S1x128x128
    (truncf .bf16
      (matmul dot_S128x512_S512x128_S128x128_1_0_0_1_n_n none
        (truncf .bf16
          (mulf p (broadcastTo S128x512 (shapeCast S1x512 vs shapeCasts_S1x1x512_S1x512) broadcasts_S1x512_S128x512))
          bitsLt_bf16_f32)
        (extf .bf16 (shapeCast S512x128 vb shapeCasts_S1x1x512x128_S512x128) bitsLt_fp8e4m3_bf16)
        (constant S128x128 .f32 0x00000000#32))
      bitsLt_bf16_f32)
    shapeCasts_S128x128_S1x128x128

/-- A rotation's codes, as they are stored. -/
def codes (q : FVec F S128x128 .f32) : FVec F S1x1x128x128 .fp8e4m3 :=
  shapeCast S1x1x128x128 (code q) shapeCasts_S128x128_S1x1x128x128

/-- A rotation's scales, as they are stored. -/
def scales (q : FVec F S128x128 .f32) : FVec F S1x1x128x1 .f32 :=
  shapeCast S1x1x128x1 (scale q) shapeCasts_S128x1_S1x1x128x1

end Cert.Block

end
-- ==== Proof.Pieces.lean ====
/- The body's stores, for every head at once: each of the four staging buffers is a list of pieces, one per head (and per
   rotation or mass), and each piece is the block function of `Proof/Block.lean` at that head's parts of the input
   blocks. -/
module

public import proofs.«01_k».proof.Proof.Block
public import proofs.«01_k».proof.Proof.Gen.KernelIdeal.Frame

@[expose] public section

set_option maxRecDepth 16384

noncomputable section

namespace Cert.Block

open Cert.KernelIdeal Cert.KernelIdeal.Gen Idealize.ShloMosaic

variable {F : FTy → Type} [FloatOps F]

/-! ### The parts of the blocks -/

/-- A head's columns of the queries' block. -/
abbrev cols (h : Fin 12) : Rect S1x128x1536 :=
  Rect.unit (s := S1x128x1536) ![0, 0, 128 * h.val] S1x128x128.size (by revert h; decide)

/-- A position's angles. -/
abbrev turn (c : Fin 3) : Rect S3x1x128x128 :=
  Rect.unit (s := S3x1x128x128) ![c.val, 0, 0, 0] S1x1x128x128.size (by revert c; decide)

/-- A head's columns of a rotation's codes. -/
abbrev turnCols (c : Fin 3) (h : Fin 12) : Rect S3x1x128x1536 :=
  Rect.unit (s := S3x1x128x1536) ![c.val, 0, 0, 128 * h.val] S1x1x128x128.size (by revert c h; decide)

/-- A head's column of a rotation's scales, or of a mass. -/
abbrev column (c : Fin 3) (h : Fin 12) : Rect S3x1x128x12 :=
  Rect.unit (s := S3x1x128x12) ![c.val, 0, 0, h.val] S1x1x128x1.size (by revert c h; decide)

/-- A key-value head's codes. -/
abbrev group (g : Fin 2) : Rect S1x2x512x128 :=
  Rect.unit (s := S1x2x512x128) ![0, g.val, 0, 0] S1x1x512x128.size (by revert g; decide)

/-- A row of a two-row block: a key-value head's scales, the documents or the chunks. -/
abbrev line (g : Fin 2) : Rect S1x2x512 :=
  Rect.unit (s := S1x2x512) ![0, g.val, 0] S1x1x512.size (by revert g; decide)

/-- A column of a two-column block: the documents or the chunks. -/
abbrev strip (g : Fin 2) : Rect S1x128x2 :=
  Rect.unit (s := S1x128x2) ![0, 0, g.val] S1x128x1.size (by revert g; decide)

/-- The key-value head of a head. -/
abbrev shared (h : Fin 12) : Fin 2 := ⟨h.val / 6, by omega⟩

/-- The distance's condition of a mass: 0, 1, or 2 and more. -/
def marked (c : Fin 3) (d : IVec S128x512 32) : IVec S128x512 1 :=
  match c with
  | 0 => cmpi .eq d (broadcast S128x512 0#32)
  | 1 => cmpi .eq d (broadcast S128x512 1#32)
  | 2 => cmpi .sge d (broadcast S128x512 2#32)

/-! ### The pieces -/

variable (i : grid0.Coords) (x0 : Vec F S1x128x1536 .bf16) (x1 x2 : Vec F S3x1x128x128 .f32) (x3 : Vec F S1x128x2 .i32)
  (x4 : Vec F S1x2x512 .i32) (x5 : Vec F S1x2x512x128 .fp8e4m3) (x6 : Vec F S1x2x512 .f32) (x7 : Vec F S1x2x512x128 .fp8e4m3)
  (x8 : Vec F S1x2x512 .f32)

/-- A head's rotated queries. -/
def turned (c : Fin 3) (h : Fin 12) : FVec F S128x128 .f32 :=
  rotated (View.ld x0 (cols h)) (View.ld x1 (turn c)) (View.ld x2 (turn c))

/-- The distances. -/
def dists : IVec S128x512 32 := dist (View.ld x3 (strip 1)) (View.ld x4 (line 1))

/-- A head's attention weights. -/
def head (h : Fin 12) : FVec F S128x512 .f32 :=
  weights (masked (dists x3 x4) (visible i (View.ld x3 (strip 0)) (View.ld x4 (line 0)))
    (score (turned x0 x1 x2 0 h) (View.ld x5 (group (shared h))))
    (score (turned x0 x1 x2 1 h) (View.ld x5 (group (shared h))))
    (score (turned x0 x1 x2 2 h) (View.ld x5 (group (shared h))))
    (View.ld x6 (line (shared h))))

/-- The heads, last first. -/
abbrev heads : List (Fin 12) := [11, 10, 9, 8, 7, 6, 5, 4, 3, 2, 1, 0]

/-- The heads and rotations, last first. -/
abbrev turns : List (Fin 12 × Fin 3) :=
  [(11, 2), (11, 1), (11, 0), (10, 2), (10, 1), (10, 0), (9, 2), (9, 1), (9, 0), (8, 2), (8, 1), (8, 0),
   (7, 2), (7, 1), (7, 0), (6, 2), (6, 1), (6, 0), (5, 2), (5, 1), (5, 0), (4, 2), (4, 1), (4, 0),
   (3, 2), (3, 1), (3, 0), (2, 2), (2, 1), (2, 0), (1, 2), (1, 1), (1, 0), (0, 2), (0, 1), (0, 0)]

/-- The output block's pieces. -/
theorem out_pieces : out0_9 i x0 x1 x2 x3 x4 x5 x6 x7 x8
    = View.canon (heads.map fun h => (⟨cols h,
        output (head i x0 x1 x2 x3 x4 x5 x6 h) (View.ld x8 (line (shared h))) (View.ld x7 (group (shared h)))⟩ : View.Piece (Elt F) S1x128x1536 .bf16)) := rfl

/-- The masses' pieces. -/
theorem mass_pieces : out0_10 i x0 x1 x2 x3 x4 x5 x6 x7 x8
    = View.canon (turns.map fun p => (⟨column p.2 p.1,
        mass (marked p.2 (dists x3 x4)) (head i x0 x1 x2 x3 x4 x5 x6 p.1)⟩ : View.Piece (Elt F) S3x1x128x12 .f32)) := rfl

/-- The codes' pieces. -/
theorem codes_pieces : out0_11 i x0 x1 x2 x3 x4 x5 x6 x7 x8
    = View.canon (turns.map fun p => (⟨turnCols p.2 p.1, codes (turned x0 x1 x2 p.2 p.1)⟩ : View.Piece (Elt F) S3x1x128x1536 .fp8e4m3)) := rfl

/-- The scales' pieces. -/
theorem scales_pieces : out0_12 i x0 x1 x2 x3 x4 x5 x6 x7 x8
    = View.canon (turns.map fun p => (⟨column p.2 p.1, scales (turned x0 x1 x2 p.2 p.1)⟩ : View.Piece (Elt F) S3x1x128x12 .f32)) := rfl

end Cert.Block

end
-- ==== Proof.Rows.lean ====
/- What one head's block computes, row by row: the functions of `Proof/Block.lean` at an index are the row functions of
   `Proof/Spec.lean`. -/
module

public import proofs.«01_k».proof.Proof.Block
public import proofs.«01_k».proof.Proof.Spec
public import Idealize.ShloMosaic.Lib.Pointwise

@[expose] public section

noncomputable section

namespace Cert.Block

open Cert.KernelIdeal Cert.KernelIdeal.Facts Cert.KernelIdeal.Facts₀ Idealize.ShloMosaic

/-- The kernel's rotation (a product with the cosines plus the halves exchanged times the sines) is the plain rotation. -/
theorem rotated_at (xb : Vec Ideal S1x128x128 .bf16) (cb sb : Vec Ideal S1x1x128x128 .f32) (r : Fin 128)
    (x : Fin 128 → EReal) (a : Fin 64 → EReal) (hx : ∀ j, xb (ix3 0 r j) = x j)
    (hc : ∀ j : Fin 128, cb (ix4 0 0 r j) = if h : j.val < 64 then Ideal.cos (a ⟨j.val, h⟩) else Ideal.cos (a ⟨j.val - 64, by omega⟩))
    (hs : ∀ j : Fin 128, sb (ix4 0 0 r j) = if h : j.val < 64 then Ideal.sin (a ⟨j.val, h⟩) else Ideal.sin (a ⟨j.val - 64, by omega⟩))
    (j : Fin 128) : rotated xb cb sb (ix2 r j) = Spec.rotate x a j := by
  pointwise [rotated, swapped, wide]
  rw [hc, hs, hx, Spec.rotate]
  by_cases h : j.val < 64
  · simp only [h, dif_pos, hx]
    rw [zero_sub, EReal.neg_mul, ← sub_eq_add_neg]
  · simp only [h, dif_neg, not_false_eq_true, hx]
    congr 3
    exact Fin.ext (by simp only; omega)

/-- A row's largest magnitude over 448. -/
theorem top_at (q : FVec Ideal S128x128 .f32) (r : Fin 128) : top q (ix2 r 0) = Spec.top fun j => q (ix2 r j) := by
  pointwise [top]
  rfl

/-- The block's exponent field is the count's. -/
theorem field_at (a : FVec Ideal S128x1 .f32) (r : Fin 128) : field a (ix2 r 0) = Scale.fieldOf (Scale.count (a (ix2 r 0))) := by
  pointwise [field, powers]
  rfl

/-- A row's scale. -/
theorem scale_at (q : FVec Ideal S128x128 .f32) (r : Fin 128) (h0 : 0 ≤ Spec.top fun j => q (ix2 r j))
    (h1 : (Spec.top fun j => q (ix2 r j)) < Scale.power 253) : scale q (ix2 r 0) = Spec.scale fun j => q (ix2 r j) := by
  rw [Spec.scale, ← (Scale.agree _ h0 h1).1]
  pointwise [scale, expo]
  rw [field_at, top_at]
  rfl

/-- A row's codes. -/
theorem code_at (q : FVec Ideal S128x128 .f32) (r j : Fin 128) (h0 : 0 ≤ Spec.top fun j => q (ix2 r j))
    (h1 : (Spec.top fun j => q (ix2 r j)) < Scale.power 253) : code q (ix2 r j) = Spec.code (fun j => q (ix2 r j)) j := by
  rw [Spec.code, ← (Scale.agree _ h0 h1).2]
  pointwise [code, expo]
  rw [field_at, top_at]
  rfl

/-- The products of a row's codes with the keys' codes, times the row's scale. -/
theorem score_at (q : FVec Ideal S128x128 .f32) (kb : Vec Ideal S1x1x512x128 .fp8e4m3) (r : Fin 128) (t : Fin 512)
    (h0 : 0 ≤ Spec.top fun j => q (ix2 r j)) (h1 : (Spec.top fun j => q (ix2 r j)) < Scale.power 253) :
    score q kb (ix2 r t) = Spec.score (fun j => q (ix2 r j)) (fun j => kb (ix4 0 0 t j)) := by
  pointwise [score]
  simp only [scale_at q r h0 h1, code_at q r _ h0 h1]
  rfl

/-- A masked score. -/
theorem masked_at (d : IVec S128x512 32) (vis : IVec S128x512 1) (s0 s1 s2 : FVec Ideal S128x512 .f32) (ks : Vec Ideal S1x1x512 .f32)
    (r : Fin 128) (t : Fin 512) : masked d vis s0 s1 s2 ks (ix2 r t)
      = Scalar.select (vis (ix2 r t))
          (Scalar.select (IntOp.cmpi .eq (d (ix2 r t)) 0#32) (s0 (ix2 r t)) (Scalar.select (IntOp.cmpi .eq (d (ix2 r t)) 1#32) (s1 (ix2 r t)) (s2 (ix2 r t)))
            * (ks (ix3 0 0 t) * Ideal.ofBits FTy.f32 0x3DB504F3#32))
          (Ideal.ofBits FTy.f32 0xFF800000#32) := by
  pointwise [masked]

/-- The softmax of a row. -/
theorem weights_at (s : FVec Ideal S128x512 .f32) (r : Fin 128) (t : Fin 512) :
    weights s (ix2 r t) = Spec.softmax (fun t => s (ix2 r t)) t := by
  pointwise [weights, expd, total]
  rfl

/-- A row's mass on the marked keys. -/
theorem mass_at (c : IVec S128x512 1) (p : FVec Ideal S128x512 .f32) (r : Fin 128) :
    mass c p (ix4 0 0 r 0) = ∑ t, Scalar.select (c (ix2 r t)) (p (ix2 r t) : EReal) 0 := by
  pointwise [mass, total]

/-- A row's output. -/
theorem output_at (p : FVec Ideal S128x512 .f32) (vs : Vec Ideal S1x1x512 .f32) (vb : Vec Ideal S1x1x512x128 .fp8e4m3) (r l : Fin 128) :
    output p vs vb (ix3 0 r l) = ∑ t : Fin 512, (p (ix2 r t) * vs (ix3 0 0 t) * vb (ix4 0 0 t l) : EReal) := by
  pointwise [output]

/-- A row's codes, as they are stored. -/
theorem codes_at (q : FVec Ideal S128x128 .f32) (r j : Fin 128) : codes q (ix4 0 0 r j) = code q (ix2 r j) := by
  pointwise [codes]

/-- A row's scale, as it is stored. -/
theorem scales_at (q : FVec Ideal S128x128 .f32) (r : Fin 128) : scales q (ix4 0 0 r 0) = scale q (ix2 r 0) := by
  pointwise [scales]

/-- The distance between a query and a key. -/
theorem dist_at (cq : Vec Ideal S1x128x1 .i32) (ck : Vec Ideal S1x1x512 .i32) (r : Fin 128) (t : Fin 512) :
    dist (F := Ideal) cq ck (ix2 r t) = IntOp.subi (cq (ix3 0 r 0)) (ck (ix3 0 0 t)) := by
  pointwise [dist]

/-- Whether a query sees a key. -/
theorem visible_at (i : grid0.Coords) (dq : Vec Ideal S1x128x1 .i32) (dk : Vec Ideal S1x1x512 .i32) (r : Fin 128) (t : Fin 512) :
    visible (F := Ideal) i dq dk (ix2 r t)
      = IntOp.andi (IntOp.cmpi .sle (BitVec.ofNat 32 t.val) (BitVec.ofNat 32 ((i 1).val * 128 + r.val)))
          (IntOp.cmpi .eq (dq (ix3 0 r 0)) (dk (ix3 0 0 t))) := by
  have e : BitVec.ofNat 32 ((i 1).val * 128 + r.val) = IntOp.addi (Scalar.muli (BitVec.ofNat 32 (i 1).val) 128#32) (BitVec.ofNat 32 r.val) := by
    rw [BitVec.ofNat_add, BitVec.ofNat_mul]; rfl
  rw [e]
  pointwise [visible]

end Cert.Block

end
-- ==== Proof.BlockValue.lean ====
/- What one block holds after the body: when the nine input blocks hold the parts of the inputs that a block of 128 queries
   reads, each of the four staging buffers holds the results of those queries. -/
module

public import proofs.«01_k».proof.Proof.Pieces
public import proofs.«01_k».proof.Proof.Rows
public import Idealize.ShloMosaic.Lib.Pipeline.ValueKit

@[expose] public section

set_option maxRecDepth 16384

noncomputable section

namespace Cert.Block

open Cert.KernelIdeal Cert.KernelIdeal.Gen Idealize.ShloMosaic

/-- Each query's largest magnitude over 448 is not negative and is under the power of two of field 253. -/
def Small (I : Spec.Inputs) : Prop :=
  ∀ c b s h, 0 ≤ Spec.top (Spec.query I c b s h) ∧ Spec.top (Spec.query I c b s h) < Scale.power 253

/-- The blocks of grid point `i` hold sequence `b`'s inputs, the queries those of positions `s r`. -/
structure Holds (I : Spec.Inputs) (b : Fin 4) (s : Fin 128 → Fin 512) (i : grid0.Coords)
    (x0 : Vec Ideal S1x128x1536 .bf16) (x1 x2 : Vec Ideal S3x1x128x128 .f32) (x3 : Vec Ideal S1x128x2 .i32)
    (x4 : Vec Ideal S1x2x512 .i32) (x5 : Vec Ideal S1x2x512x128 .fp8e4m3) (x6 : Vec Ideal S1x2x512 .f32)
    (x7 : Vec Ideal S1x2x512x128 .fp8e4m3) (x8 : Vec Ideal S1x2x512 .f32) : Prop where
  place : ∀ r, (s r).val = (i 1).val * 128 + r.val
  queries : ∀ r j, x0 (ix3 0 r j) = I.x b (s r) j
  cosines : ∀ c r (j : Fin 128), x1 (ix4 c 0 r j) = if h : j.val < 64
    then Ideal.cos (Spec.angle c (Spec.modulo (Spec.rel I b (s r))) ⟨j.val, h⟩)
    else Ideal.cos (Spec.angle c (Spec.modulo (Spec.rel I b (s r))) ⟨j.val - 64, by omega⟩)
  sines : ∀ c r (j : Fin 128), x2 (ix4 c 0 r j) = if h : j.val < 64
    then Ideal.sin (Spec.angle c (Spec.modulo (Spec.rel I b (s r))) ⟨j.val, h⟩)
    else Ideal.sin (Spec.angle c (Spec.modulo (Spec.rel I b (s r))) ⟨j.val - 64, by omega⟩)
  docs : ∀ r, x3 (ix3 0 r 0) = I.doc b (s r)
  chunks : ∀ r, x3 (ix3 0 r 1) = Spec.quotient (Spec.rel I b (s r))
  keyDocs : ∀ t, x4 (ix3 0 0 t) = I.doc b t
  keyChunks : ∀ t, x4 (ix3 0 1 t) = Spec.quotient (Spec.rel I b t)
  keys : ∀ g t j, x5 (ix4 0 g t j) = I.k b t g j
  keyScales : ∀ g t, x6 (ix3 0 g t) = I.ks b t g
  values : ∀ g t j, x7 (ix4 0 g t j) = I.v b t g j
  valueScales : ∀ g t, x8 (ix3 0 g t) = I.vs b t g

/-! ### The parts read at an index -/

/-- A head's columns. -/
theorem cols_at {α : EltTy} (x : Vec Ideal S1x128x1536 α) (h : Fin 12) (r j : Fin 128) :
    View.ld x (cols h) (ix3 0 r j) = x (ix3 0 r ⟨128 * h.val + j.val, by omega⟩) :=
  View.ld_unit_apply_of _ _ _ _ _ _ fun a => by fin_cases a <;> simp [ix3]

/-- A position's angles. -/
theorem turn_at {α : EltTy} (x : Vec Ideal S3x1x128x128 α) (c : Fin 3) (r j : Fin 128) :
    View.ld x (turn c) (ix4 0 0 r j) = x (ix4 c 0 r j) :=
  View.ld_unit_apply_of _ _ _ _ _ _ fun a => by fin_cases a <;> simp [ix4]

/-- A key-value head's codes. -/
theorem group_at {α : EltTy} (x : Vec Ideal S1x2x512x128 α) (g : Fin 2) (t : Fin 512) (j : Fin 128) :
    View.ld x (group g) (ix4 0 0 t j) = x (ix4 0 g t j) :=
  View.ld_unit_apply_of _ _ _ _ _ _ fun a => by fin_cases a <;> simp [ix4]

/-- A row of a two-row block. -/
theorem line_at {α : EltTy} (x : Vec Ideal S1x2x512 α) (g : Fin 2) (t : Fin 512) :
    View.ld x (line g) (ix3 0 0 t) = x (ix3 0 g t) :=
  View.ld_unit_apply_of _ _ _ _ _ _ fun a => by fin_cases a <;> simp [ix3]

/-- A column of a two-column block. -/
theorem strip_at {α : EltTy} (x : Vec Ideal S1x128x2 α) (g : Fin 2) (r : Fin 128) :
    View.ld x (strip g) (ix3 0 r 0) = x (ix3 0 r g) :=
  View.ld_unit_apply_of _ _ _ _ _ _ fun a => by fin_cases a <;> simp [ix3]

/-! ### A head -/

variable {I : Spec.Inputs} {b : Fin 4} {s : Fin 128 → Fin 512} {i : grid0.Coords}
  {x0 : Vec Ideal S1x128x1536 .bf16} {x1 x2 : Vec Ideal S3x1x128x128 .f32} {x3 : Vec Ideal S1x128x2 .i32}
  {x4 : Vec Ideal S1x2x512 .i32} {x5 : Vec Ideal S1x2x512x128 .fp8e4m3} {x6 : Vec Ideal S1x2x512 .f32}
  {x7 : Vec Ideal S1x2x512x128 .fp8e4m3} {x8 : Vec Ideal S1x2x512 .f32}

/-- A head's rotated queries. -/
theorem turned_at (H : Holds I b s i x0 x1 x2 x3 x4 x5 x6 x7 x8) (c : Fin 3) (h : Fin 12) (r j : Fin 128) :
    turned x0 x1 x2 c h (ix2 r j) = Spec.query I c b (s r) h j := by
  refine rotated_at _ _ _ r _ _ (fun j => ?_) (fun j => ?_) (fun j => ?_) j
  · rw [cols_at, H.queries]
  · rw [turn_at, H.cosines]
  · rw [turn_at, H.sines]

/-- The same for a whole row. -/
theorem turned_row (H : Holds I b s i x0 x1 x2 x3 x4 x5 x6 x7 x8) (c : Fin 3) (h : Fin 12) (r : Fin 128) :
    (fun j => turned x0 x1 x2 c h (ix2 r j)) = Spec.query I c b (s r) h := funext fun j => turned_at H c h r j

/-- A head's codes. -/
theorem turned_code (H : Holds I b s i x0 x1 x2 x3 x4 x5 x6 x7 x8) (S : Small I) (c : Fin 3) (h : Fin 12) (r j : Fin 128) :
    code (turned x0 x1 x2 c h) (ix2 r j) = Spec.codes I c b (s r) h j := by
  have e := turned_row H c h r
  have := S c b (s r) h
  rw [code_at _ r j (by rw [e]; exact this.1) (by rw [e]; exact this.2), e]
  rfl

/-- A head's scales. -/
theorem turned_scale (H : Holds I b s i x0 x1 x2 x3 x4 x5 x6 x7 x8) (S : Small I) (c : Fin 3) (h : Fin 12) (r : Fin 128) :
    scale (turned x0 x1 x2 c h) (ix2 r 0) = Spec.scales I c b (s r) h := by
  have e := turned_row H c h r
  have := S c b (s r) h
  rw [scale_at _ r (by rw [e]; exact this.1) (by rw [e]; exact this.2), e]
  rfl

/-- A head's scores under one rotation. -/
theorem turned_score (H : Holds I b s i x0 x1 x2 x3 x4 x5 x6 x7 x8) (S : Small I) (c : Fin 3) (h : Fin 12) (r : Fin 128) (t : Fin 512) :
    score (turned x0 x1 x2 c h) (View.ld x5 (group (shared h))) (ix2 r t)
      = Spec.score (Spec.query I c b (s r) h) (I.k b t (Spec.kv h)) := by
  have e := turned_row H c h r
  have := S c b (s r) h
  rw [score_at _ _ r t (by rw [e]; exact this.1) (by rw [e]; exact this.2), e]
  congr 1
  funext j
  rw [group_at, H.keys]
  rfl

/-- The distances. -/
theorem dists_at (H : Holds I b s i x0 x1 x2 x3 x4 x5 x6 x7 x8) (r : Fin 128) (t : Fin 512) :
    dists x3 x4 (ix2 r t) = Spec.dist I b (s r) t := by
  rw [dists, dist_at, strip_at, line_at, H.chunks, H.keyChunks]
  rfl

/-- Which keys a query sees. -/
theorem sees_at (H : Holds I b s i x0 x1 x2 x3 x4 x5 x6 x7 x8) (r : Fin 128) (t : Fin 512) :
    visible i (View.ld x3 (strip 0)) (View.ld x4 (line 0)) (ix2 r t) = Spec.visible I b (s r) t := by
  rw [visible_at, strip_at, line_at, H.docs, H.keyDocs, ← H.place]
  rfl

/-- A head's attention weights. -/
theorem head_at (H : Holds I b s i x0 x1 x2 x3 x4 x5 x6 x7 x8) (S : Small I) (h : Fin 12) (r : Fin 128) (t : Fin 512) :
    head i x0 x1 x2 x3 x4 x5 x6 h (ix2 r t) = Spec.weights I b (s r) h t := by
  rw [head, weights_at, Spec.weights]
  congr 1
  funext t
  rw [masked_at, sees_at H, dists_at H, turned_score H S, turned_score H S, turned_score H S, line_at, H.keyScales]
  rfl

/-- The condition of a mass at an index. -/
theorem marked_at (c : Fin 3) (d : IVec S128x512 32) (r : Fin 128) (t : Fin 512) :
    marked c d (ix2 r t) = Spec.counts c (d (ix2 r t)) := by
  fin_cases c <;> rfl

/-! ### Where the pieces lie -/

/-- A column is a head's column. -/
abbrev headOf (j : Fin 1536) : Fin 12 := ⟨j.val / 128, by omega⟩

/-- A column's place in its head. -/
abbrev laneOf (j : Fin 1536) : Fin 128 := ⟨j.val % 128, by omega⟩

/-- The head of a head's column. -/
theorem headOf_at (h : Fin 12) (l : Fin 128) : headOf ⟨128 * h.val + l.val, by omega⟩ = h :=
  Fin.ext (by show (128 * h.val + l.val) / 128 = h.val; omega)

/-- The place of a head's column. -/
theorem laneOf_at (h : Fin 12) (l : Fin 128) : laneOf ⟨128 * h.val + l.val, by omega⟩ = l :=
  Fin.ext (by show (128 * h.val + l.val) % 128 = l.val; omega)

/-- A head's columns in the output block. -/
theorem cols_emb (h : Fin 12) (r l : Fin 128) :
    (cols h).emb (ix3 (0 : Fin 1) r l) = ix3 (0 : Fin 1) r (⟨128 * h.val + l.val, by omega⟩ : Fin 1536) := by
  funext a
  apply Fin.ext
  fin_cases a
  · rfl
  · show 0 + 1 * r.val = r.val; omega
  · show 128 * h.val + 1 * l.val = _; show _ = 128 * h.val + l.val; omega

/-- A rotation's head's columns in the codes' block. -/
theorem turnCols_emb (c : Fin 3) (h : Fin 12) (r l : Fin 128) :
    (turnCols c h).emb (ix4 (0 : Fin 1) (0 : Fin 1) r l) = ix4 c (0 : Fin 1) r (⟨128 * h.val + l.val, by omega⟩ : Fin 1536) := by
  funext a
  apply Fin.ext
  fin_cases a
  · show c.val + 1 * 0 = c.val; omega
  · rfl
  · show 0 + 1 * r.val = r.val; omega
  · show 128 * h.val + 1 * l.val = 128 * h.val + l.val; omega

/-- A rotation's head's column in the masses' and the scales' blocks. -/
theorem column_emb (c : Fin 3) (h : Fin 12) (r : Fin 128) :
    (column c h).emb (ix4 (0 : Fin 1) (0 : Fin 1) r (0 : Fin 1)) = ix4 c (0 : Fin 1) r h := by
  funext a
  apply Fin.ext
  fin_cases a
  · show c.val + 1 * 0 = c.val; omega
  · rfl
  · show 0 + 1 * r.val = r.val; omega
  · show h.val + 1 * 0 = h.val; omega

/-- The indices of one head's output. -/
theorem tile_idx (x : S1x128x128.Idx) : ∃ r l : Fin 128, x = ix3 (0 : Fin 1) r l :=
  ⟨x 1, x 2, (eq_ix3 x).trans (congrArg (fun a : Fin 1 => ix3 a (x 1 : Fin 128) (x 2 : Fin 128)) (Subsingleton.elim _ _))⟩

/-- The indices of one head's codes. -/
theorem turnTile_idx (x : S1x1x128x128.Idx) : ∃ r l : Fin 128, x = ix4 (0 : Fin 1) (0 : Fin 1) r l :=
  ⟨x 2, x 3, (eq_ix4 x).trans (congrArg₂ (fun a b : Fin 1 => ix4 a b (x 2 : Fin 128) (x 3 : Fin 128)) (Subsingleton.elim _ _) (Subsingleton.elim _ _))⟩

/-- The indices of one head's scales. -/
theorem column_idx (x : S1x1x128x1.Idx) : ∃ r : Fin 128, x = ix4 (0 : Fin 1) (0 : Fin 1) r (0 : Fin 1) := by
  refine ⟨x 2, (eq_ix4 x).trans ?_⟩
  exact (congrArg₂ (fun a b : Fin 1 => ix4 a b (x 2 : Fin 128) (x 3 : Fin 1)) (Subsingleton.elim _ _) (Subsingleton.elim _ _)).trans
    (congrArg (fun a : Fin 1 => ix4 (0 : Fin 1) (0 : Fin 1) (x 2 : Fin 128) a) (Subsingleton.elim _ _))

/-! ### One piece -/

/-- A head's output. -/
theorem out_piece (H : Holds I b s i x0 x1 x2 x3 x4 x5 x6 x7 x8) (S : Small I) (h : Fin 12) (r l : Fin 128) :
    output (head i x0 x1 x2 x3 x4 x5 x6 h) (View.ld x8 (line (shared h))) (View.ld x7 (group (shared h))) (ix3 0 r l)
      = Spec.out I b (s r) h l := by
  rw [output_at]
  refine Finset.sum_congr rfl fun t _ => ?_
  rw [head_at H S, line_at, group_at, H.values, H.valueScales]
  rfl

/-- A head's mass. -/
theorem mass_piece (H : Holds I b s i x0 x1 x2 x3 x4 x5 x6 x7 x8) (S : Small I) (c : Fin 3) (h : Fin 12) (r : Fin 128) :
    mass (marked c (dists x3 x4)) (head i x0 x1 x2 x3 x4 x5 x6 h) (ix4 0 0 r 0) = Spec.mass I c b (s r) h := by
  rw [mass_at]
  refine Finset.sum_congr rfl fun t _ => ?_
  rw [head_at H S, marked_at, dists_at H]

/-! ### The staging buffers -/

/-- The output block. -/
theorem out_block (H : Holds I b s i x0 x1 x2 x3 x4 x5 x6 x7 x8) (S : Small I) (y : S1x128x1536.Idx) :
    out0_9 i x0 x1 x2 x3 x4 x5 x6 x7 x8 y = Spec.out I b (s (y 1)) (headOf (y 2)) (laneOf (y 2)) := by
  rw [out_pieces]
  refine View.canon_apply_of_pieces (Val := Elt Ideal) (e := .bf16)
    (fun y : S1x128x1536.Idx => Spec.out I b (s (y 1)) (headOf (y 2)) (laneOf (y 2))) _ ?_ y ?_
  · intro p hp x
    obtain ⟨h, _, rfl⟩ := List.mem_map.mp hp
    obtain ⟨r, l, hx⟩ := tile_idx x
    rw [hx]
    refine (out_piece H S h r l).trans ?_
    rw [show (cols h).emb (ix3 (0 : Fin 1) r l) = _ from cols_emb h r l]
    exact (congrArg₂ (Spec.out I b (s r)) (headOf_at h l) (laneOf_at h l)).symm
  · exact View.cover_of_tiled _ ![1, 128, 128] (by rfl) y

/-- The masses' block. -/
theorem mass_block (H : Holds I b s i x0 x1 x2 x3 x4 x5 x6 x7 x8) (S : Small I) (y : S3x1x128x12.Idx) :
    out0_10 i x0 x1 x2 x3 x4 x5 x6 x7 x8 y = Spec.mass I (y 0) b (s (y 2)) (y 3) := by
  rw [mass_pieces]
  refine View.canon_apply_of_pieces (Val := Elt Ideal) (e := .f32)
    (fun y : S3x1x128x12.Idx => Spec.mass I (y 0) b (s (y 2)) (y 3)) _ ?_ y ?_
  · intro p hp x
    obtain ⟨⟨h, c⟩, _, rfl⟩ := List.mem_map.mp hp
    obtain ⟨r, hx⟩ := column_idx x
    rw [hx]
    refine (mass_piece H S c h r).trans ?_
    rw [show (column c h).emb (ix4 (0 : Fin 1) (0 : Fin 1) r (0 : Fin 1)) = _ from column_emb c h r]
    rfl
  · exact View.cover_of_tiled _ ![1, 1, 128, 1] (by rfl) y

/-- The codes' block. -/
theorem codes_block (H : Holds I b s i x0 x1 x2 x3 x4 x5 x6 x7 x8) (S : Small I) (y : S3x1x128x1536.Idx) :
    out0_11 i x0 x1 x2 x3 x4 x5 x6 x7 x8 y = Spec.codes I (y 0) b (s (y 2)) (headOf (y 3)) (laneOf (y 3)) := by
  rw [codes_pieces]
  refine View.canon_apply_of_pieces (Val := Elt Ideal) (e := .fp8e4m3)
    (fun y : S3x1x128x1536.Idx => Spec.codes I (y 0) b (s (y 2)) (headOf (y 3)) (laneOf (y 3))) _ ?_ y ?_
  · intro p hp x
    obtain ⟨⟨h, c⟩, _, rfl⟩ := List.mem_map.mp hp
    obtain ⟨r, l, hx⟩ := turnTile_idx x
    rw [hx]
    refine ((codes_at _ r l).trans (turned_code H S c h r l)).trans ?_
    rw [show (turnCols c h).emb (ix4 (0 : Fin 1) (0 : Fin 1) r l) = _ from turnCols_emb c h r l]
    exact (congrArg₂ (Spec.codes I c b (s r)) (headOf_at h l) (laneOf_at h l)).symm
  · exact View.cover_of_tiled _ ![1, 1, 128, 128] (by rfl) y

/-- The scales' block. -/
theorem scales_block (H : Holds I b s i x0 x1 x2 x3 x4 x5 x6 x7 x8) (S : Small I) (y : S3x1x128x12.Idx) :
    out0_12 i x0 x1 x2 x3 x4 x5 x6 x7 x8 y = Spec.scales I (y 0) b (s (y 2)) (y 3) := by
  rw [scales_pieces]
  refine View.canon_apply_of_pieces (Val := Elt Ideal) (e := .f32)
    (fun y : S3x1x128x12.Idx => Spec.scales I (y 0) b (s (y 2)) (y 3)) _ ?_ y ?_
  · intro p hp x
    obtain ⟨⟨h, c⟩, _, rfl⟩ := List.mem_map.mp hp
    obtain ⟨r, hx⟩ := column_idx x
    rw [hx]
    refine ((scales_at _ r).trans (turned_scale H S c h r)).trans ?_
    rw [show (column c h).emb (ix4 (0 : Fin 1) (0 : Fin 1) r (0 : Fin 1)) = _ from column_emb c h r]
    rfl
  · exact View.cover_of_tiled _ ![1, 1, 128, 1] (by rfl) y

end Cert.Block

end
-- ==== Proof.Bound.lean ====
/- The queries are bounded: when the inputs are real numbers of magnitude at most `2 ^ 128`, the largest magnitude of a
   rotated query over 448 is under `2 ^ 126`. -/
module

public import proofs.«01_k».proof.Proof.BlockValue

@[expose] public section

noncomputable section

namespace Cert.Bound

open Idealize.ShloMosaic

/-- The word of a million. -/
theorem million : Ideal.ofBits FTy.f32 0x49742400#32 = ((1000000 : ℝ) : EReal) := by
  simp [Ideal.ofBits, Ideal.ieee, -EReal.coe_mul]
  norm_num

/-- The word of 128. -/
theorem width : Ideal.ofBits FTy.f32 0x43000000#32 = ((128 : ℝ) : EReal) := by
  simp [Ideal.ofBits, Ideal.ieee, -EReal.coe_mul]
  norm_num

/-- The word of the largest number of the inputs' format. -/
theorem largest : ∃ r : ℝ, Ideal.ofBits FTy.f32 0x7F7F0000#32 = (r : EReal) ∧ r ≤ 2 ^ 128 := by
  refine ⟨16711680 * 2 ^ 104, ?_, by norm_num⟩
  simp [Ideal.ofBits, Ideal.ieee]

/-- The word of one over 448. -/
theorem fraction : ∃ r : ℝ, Ideal.ofBits FTy.f32 0x3B124925#32 = (r : EReal) ∧ 0 ≤ r ∧ r ≤ 1 / 256 := by
  refine ⟨9586981 * 2 ^ (-32 : ℤ), ?_, by positivity, by norm_num⟩
  simp [Ideal.ofBits, Ideal.ieee, -EReal.coe_mul]

/-- The word of minus infinity. -/
theorem lowest : Ideal.ofBits FTy.f32 0xFF800000#32 = ⊥ := by
  simp [Ideal.ofBits, Ideal.ieee]

/-- A frequency is a real number. -/
theorem freq_real (j : Fin 64) : ∃ r : ℝ, Spec.freq j = (r : EReal) := by
  have two : Ideal.ofBits FTy.f32 0x40000000#32 = ((2 : ℝ) : EReal) := Scale.two_eq
  have h0 : ((128 : ℝ) : EReal) ≠ 0 := by exact_mod_cast (by norm_num : (128 : ℝ) ≠ 0)
  set e : ℝ := 2 * (((BitVec.ofNat 32 j.val).toInt : ℝ)) * (128 : ℝ)⁻¹ with he
  have h1 : Ideal.pow ((1000000 : ℝ) : EReal) ((e : ℝ) : EReal) = ((Real.rpow 1000000 e : ℝ) : EReal) := rfl
  have hp : (0 : ℝ) < Real.rpow 1000000 e := Real.rpow_pos_of_pos (by norm_num) e
  have h2 : ((Real.rpow 1000000 e : ℝ) : EReal) ≠ 0 := by exact_mod_cast hp.ne'
  refine ⟨(Real.rpow 1000000 e)⁻¹, ?_⟩
  rw [Spec.freq, million, width, two]
  have h3 : Ideal.div (((2 : ℝ) : EReal) * FloatOps.sitofp (F := Ideal) FTy.f32 (BitVec.ofNat 32 j.val)) ((128 : ℝ) : EReal) = ((e : ℝ) : EReal) := by
    rw [Ideal.div, if_neg h0, he]
    push_cast
    rfl
  rw [h3, h1, Ideal.div, if_neg h2, one_mul, EReal.coe_inv]

/-- An angle is a real number. -/
theorem angle_real (c : Fin 3) (t : BitVec 32) (j : Fin 64) : ∃ r : ℝ, Spec.angle c t j = (r : EReal) := by
  obtain ⟨r, hr⟩ := freq_real j
  refine ⟨((Spec.position c t).toInt : ℝ) * r, ?_⟩
  rw [Spec.angle, hr]
  push_cast
  rfl

/-- A product of a number of magnitude at most `M` with one of magnitude at most one. -/
theorem product {u v M : ℝ} (hu : |u| ≤ M) (hv : |v| ≤ 1) : |u * v| ≤ M := by
  rw [abs_mul]
  have := mul_le_mul hu hv (abs_nonneg v) ((abs_nonneg u).trans hu)
  linarith

/-- A rotated row's elements are real numbers of at most twice the magnitude. -/
theorem rotate_real (x : Fin 128 → EReal) (a : Fin 64 → EReal) (M : ℝ) (hx : ∀ j, ∃ r : ℝ, x j = (r : EReal) ∧ |r| ≤ M)
    (ha : ∀ j, ∃ r : ℝ, a j = (r : EReal)) (j : Fin 128) : ∃ r : ℝ, Spec.rotate x a j = (r : EReal) ∧ |r| ≤ M + M := by
  unfold Spec.rotate
  split
  · rename_i h
    obtain ⟨u, hu, bu⟩ := hx ⟨j.val, by omega⟩
    obtain ⟨v, hv, bv⟩ := hx ⟨64 + j.val, by omega⟩
    obtain ⟨w, hw⟩ := ha ⟨j.val, h⟩
    refine ⟨u * Real.cos w - v * Real.sin w, ?_, (abs_sub _ _).trans (add_le_add (product bu (Real.abs_cos_le_one w)) (product bv (Real.abs_sin_le_one w)))⟩
    rw [hu, hv, hw]
    push_cast
    rfl
  · rename_i h
    obtain ⟨u, hu, bu⟩ := hx ⟨64 + (j.val - 64), by omega⟩
    obtain ⟨v, hv, bv⟩ := hx ⟨j.val - 64, by omega⟩
    obtain ⟨w, hw⟩ := ha ⟨j.val - 64, by omega⟩
    refine ⟨u * Real.cos w + v * Real.sin w, ?_, (abs_add_le _ _).trans (add_le_add (product bu (Real.abs_cos_le_one w)) (product bv (Real.abs_sin_le_one w)))⟩
    rw [hu, hv, hw]
    push_cast
    rfl

/-- The magnitude of a real number. -/
theorem absf_real (r : ℝ) : FloatOps.absf (F := Ideal) (φ := .f32) (r : EReal) = ((|r| : ℝ) : EReal) := by
  show max (r : EReal) (-(r : EReal)) = _
  rw [abs_eq_max_neg, ← EReal.coe_neg]
  exact (EReal.coe_strictMono.monotone.map_max).symm

/-- A bounded row's largest magnitude over 448. -/
theorem top_small (q : Fin 128 → EReal) (hq : ∀ j, ∃ r : ℝ, q j = (r : EReal) ∧ |r| ≤ 2 ^ 129) :
    0 ≤ Spec.top q ∧ Spec.top q < Scale.power 253 := by
  obtain ⟨c, hc, c0, c1⟩ := fraction
  have hlow : (0 : EReal) ≤ Finset.fold max (Ideal.ofBits FTy.f32 0xFF800000#32) (fun j => FloatOps.absf (F := Ideal) (φ := .f32) (q j)) Finset.univ := by
    obtain ⟨r, hr, _⟩ := hq 0
    refine Finset.le_fold_max _ |>.mpr (Or.inr ⟨0, Finset.mem_univ _, ?_⟩)
    rw [hr, absf_real]
    exact_mod_cast abs_nonneg r
  have hhigh : Finset.fold max (Ideal.ofBits FTy.f32 0xFF800000#32) (fun j => FloatOps.absf (F := Ideal) (φ := .f32) (q j)) Finset.univ ≤ ((2 ^ 129 : ℝ) : EReal) := by
    refine Finset.fold_max_le _ |>.mpr ⟨by rw [lowest]; exact bot_le, fun j _ => ?_⟩
    obtain ⟨r, hr, hb⟩ := hq j
    rw [hr, absf_real]
    exact_mod_cast hb
  rw [Spec.top, hc]
  generalize Finset.fold max (Ideal.ofBits FTy.f32 0xFF800000#32) (fun j => FloatOps.absf (F := Ideal) (φ := .f32) (q j)) Finset.univ = A at hlow hhigh
  induction A using EReal.rec with
  | bot => exact absurd hlow (by simp)
  | top => exact absurd hhigh (not_le.mpr (EReal.coe_lt_top _))
  | coe a =>
    have a0 : 0 ≤ a := by exact_mod_cast hlow
    have a1 : a ≤ 2 ^ 129 := by exact_mod_cast hhigh
    rw [← EReal.coe_mul, Scale.power_mid 253 (by norm_num) (by norm_num)]
    constructor
    · exact_mod_cast mul_nonneg a0 c0
    · have h1 : a * c ≤ 2 ^ 129 * (1 / 256) := mul_le_mul a1 c1 c0 (by positivity)
      have h2 : (2 : ℝ) ^ 129 * (1 / 256) < 2 ^ (((253 : ℕ) : ℤ) - 127) := by norm_num
      exact_mod_cast lt_of_le_of_lt h1 h2

/-- The queries are small when the inputs are real numbers of the inputs' format. -/
theorem small (I : Spec.Inputs) (hx : ∀ b s j, ∃ r : ℝ, I.x b s j = (r : EReal) ∧ |r| ≤ 2 ^ 128) : Block.Small I := by
  intro c b s h
  refine top_small _ fun j => ?_
  obtain ⟨r, hr, hb⟩ := rotate_real (fun j => I.x b s ⟨128 * h.val + j.val, by omega⟩) (Spec.angle c (Spec.modulo (Spec.rel I b s)))
    (2 ^ 128) (fun j => hx b s _) (angle_real c _) j
  exact ⟨r, hr, hb.trans (by norm_num)⟩

/-- A number no larger in magnitude than the largest of the inputs' format is real and at most `2 ^ 128`. -/
theorem real_of_le (x : EReal) (h : FloatOps.absf (F := Ideal) (φ := .f32) x ≤ Ideal.ofBits FTy.f32 0x7F7F0000#32) :
    ∃ r : ℝ, x = (r : EReal) ∧ |r| ≤ 2 ^ 128 := by
  obtain ⟨M, hM, hb⟩ := largest
  rw [hM] at h
  have h' : max x (-x) ≤ (M : EReal) := h
  induction x using EReal.rec with
  | bot => exact absurd ((le_max_right _ _).trans h') (by simp)
  | top => exact absurd ((le_max_left _ _).trans h') (by simp)
  | coe r =>
    refine ⟨r, rfl, ?_⟩
    rw [absf_real] at h
    have : |r| ≤ M := by exact_mod_cast h
    exact this.trans hb

end Cert.Bound

end
-- ==== Proof.Finite.lean ====
/- The precondition read at an index: every query entry is a real number of the inputs' format. -/
module

public import proofs.«01_k».proof.Defs
public import proofs.«01_k».proof.Proof.Gen.Pre_finite
public import proofs.«01_k».proof.Proof.Host
public import proofs.«01_k».proof.Proof.Bound

@[expose] public section

set_option maxRecDepth 16384

noncomputable section

namespace Cert.Finite

open Cert.KernelIdeal Idealize.ShloMosaic Idealize.ShloMosaic.TcCoe Idealize.SL.Sem

/-- Every entry the predicate holds of is real and at most `2 ^ 128` in magnitude. -/
theorem entry [hp : Cert.Pre_finite.Facts] (x : FVec Ideal Cert.Pre_finite.S4x512x1536 .bf16) (x1 : IVec Cert.Pre_finite.S4x512 32)
    (x2 : FVec Ideal Cert.Pre_finite.S4x512x2x128 .fp8e4m3) (x3 : FVec Ideal Cert.Pre_finite.S4x512x2 .f32)
    (x4 : FVec Ideal Cert.Pre_finite.S4x512x2x128 .fp8e4m3) (x5 : FVec Ideal Cert.Pre_finite.S4x512x2 .f32)
    (i : Cert.Pre_finite.S4x512x1536.Idx) (h : Cert.Pre_finite.fn (F := Ideal) x x1 x2 x3 x4 x5 i = 1#1) :
    ∃ r : ℝ, x i = (r : EReal) ∧ |r| ≤ 2 ^ 128 := by
  refine Bound.real_of_le (x i) ?_
  have h' : BitVec.ofBool (decide (FloatOps.absf (F := Ideal) (φ := .f32) (x i) ≤ Ideal.ofBits FTy.f32 0x7F7F0000#32)) = 1#1 := h
  by_contra hn
  rw [decide_eq_false hn] at h'
  exact absurd h' (by decide)

/-- Under the precondition the queries are small. -/
theorem small (m : (ℓ : Loc nD τ sig) → Buf (Elt Ideal) ℓ) (h : Cert.Pre_KernelIdeal_finite m) (d : Dev nD) :
    Block.Small (KernelHost.inputs (KernelHost.start m d)) :=
  Bound.small _ fun b s j => entry _ _ _ _ _ _ (ix3 b s j) (congrFun (h d) (ix3 b s j))

end Cert.Finite

end
-- ==== Proof.Arrays.lean ====
/- What the kernel's four results hold after the run: the arrays of the specification. -/
module

public import proofs.«01_k».proof.Proof.Gen.KernelIdeal.Value
public import proofs.«01_k».proof.Proof.Host
public import proofs.«01_k».proof.Proof.BlockValue
public import Idealize.ShloMosaic.Lib.Pipeline.ValueKit

@[expose] public section

set_option maxRecDepth 16384

noncomputable section

namespace Cert.KernelArrays

open Cert.KernelIdeal Cert.KernelIdeal.Gen Idealize.ShloMosaic Idealize.ShloMosaic.TcCoe Idealize.SL.Sem

variable (m : (ℓ : Loc nD τ sig) → Buf (Elt Ideal) ℓ) (d : Dev nD)

/-- Where window 0's block lies. -/
theorem index0 : ∀ t : Fin grid0.N, win0_0.index t = ![(grid0.coords t 0).val, (grid0.coords t 1).val, 0] := by decide +kernel
/-- Where window 1's block lies. -/
theorem index1 : ∀ t : Fin grid0.N, win0_1.index t = ![0, (grid0.coords t 0).val, (grid0.coords t 1).val, 0] := by decide +kernel
/-- Where window 2's block lies. -/
theorem index2 : ∀ t : Fin grid0.N, win0_2.index t = ![0, (grid0.coords t 0).val, (grid0.coords t 1).val, 0] := by decide +kernel
/-- Where window 3's block lies. -/
theorem index3 : ∀ t : Fin grid0.N, win0_3.index t = ![(grid0.coords t 0).val, (grid0.coords t 1).val, 0] := by decide +kernel
/-- Where window 4's block lies. -/
theorem index4 : ∀ t : Fin grid0.N, win0_4.index t = ![(grid0.coords t 0).val, 0, 0] := by decide +kernel
/-- Where window 5's block lies. -/
theorem index5 : ∀ t : Fin grid0.N, win0_5.index t = ![(grid0.coords t 0).val, 0, 0, 0] := by decide +kernel
/-- Where window 6's block lies. -/
theorem index6 : ∀ t : Fin grid0.N, win0_6.index t = ![(grid0.coords t 0).val, 0, 0] := by decide +kernel
/-- Where window 7's block lies. -/
theorem index7 : ∀ t : Fin grid0.N, win0_7.index t = ![(grid0.coords t 0).val, 0, 0, 0] := by decide +kernel
/-- Where window 8's block lies. -/
theorem index8 : ∀ t : Fin grid0.N, win0_8.index t = ![(grid0.coords t 0).val, 0, 0] := by decide +kernel
/-- Where window 9's block lies. -/
theorem index9 : ∀ t : Fin grid0.N, win0_9.index t = ![(grid0.coords t 0).val, (grid0.coords t 1).val, 0] := by decide +kernel
/-- Where window 10's block lies. -/
theorem index10 : ∀ t : Fin grid0.N, win0_10.index t = ![0, (grid0.coords t 0).val, (grid0.coords t 1).val, 0] := by decide +kernel
/-- Where window 11's block lies. -/
theorem index11 : ∀ t : Fin grid0.N, win0_11.index t = ![0, (grid0.coords t 0).val, (grid0.coords t 1).val, 0] := by decide +kernel
/-- Where window 12's block lies. -/
theorem index12 : ∀ t : Fin grid0.N, win0_12.index t = ![0, (grid0.coords t 0).val, (grid0.coords t 1).val, 0] := by decide +kernel

/-- The sequence of a grid point. -/
abbrev seq (t : Fin grid0.N) : Fin 4 := grid0.coords t 0

/-- The positions of a grid point's queries. -/
abbrev pos (t : Fin grid0.N) (r : Fin 128) : Fin 512 :=
  ⟨(grid0.coords t 1).val * 128 + r.val, by have : (grid0.coords t 1).val < 4 := (grid0.coords t 1).isLt; omega⟩

/-- The block of the queries at an index. -/
theorem read0 (t : Fin cfg0.N) (r : Fin 128) (j : Fin 1536) :
    (show Vec Ideal S1x128x1536 .bf16 from iblk m d 0 t) (ix3 0 r j) = (show Vec Ideal S4x512x1536 .bf16 from V m d main_arg0) (ix3 (seq t) (pos t r) j) := by
  refine congrArg (show Vec Ideal S4x512x1536 .bf16 from V m d main_arg0) ?_
  funext a
  apply Fin.ext
  fin_cases a <;> blk_simp [index0] <;> rfl

/-- The block of the cosines at an index. -/
theorem read1 (t : Fin cfg0.N) (c : Fin 3) (r j : Fin 128) :
    (show Vec Ideal S3x1x128x128 .f32 from iblk m d 1 t) (ix4 c 0 r j) = (show Vec Ideal S3x4x512x128 .f32 from V m d main_v32) (ix4 c (seq t) (pos t r) j) := by
  refine congrArg (show Vec Ideal S3x4x512x128 .f32 from V m d main_v32) ?_
  funext a
  apply Fin.ext
  fin_cases a <;> blk_simp [index1] <;> rfl

/-- The block of the sines at an index. -/
theorem read2 (t : Fin cfg0.N) (c : Fin 3) (r j : Fin 128) :
    (show Vec Ideal S3x1x128x128 .f32 from iblk m d 2 t) (ix4 c 0 r j) = (show Vec Ideal S3x4x512x128 .f32 from V m d main_v34) (ix4 c (seq t) (pos t r) j) := by
  refine congrArg (show Vec Ideal S3x4x512x128 .f32 from V m d main_v34) ?_
  funext a
  apply Fin.ext
  fin_cases a <;> blk_simp [index2] <;> rfl

/-- The block of the queries' documents and chunks at an index. -/
theorem read3 (t : Fin cfg0.N) (r : Fin 128) (g : Fin 2) :
    (show Vec Ideal S1x128x2 .i32 from iblk m d 3 t) (ix3 0 r g) = (show Vec Ideal S4x512x2 .i32 from V m d main_v39) (ix3 (seq t) (pos t r) g) := by
  refine congrArg (show Vec Ideal S4x512x2 .i32 from V m d main_v39) ?_
  funext a
  apply Fin.ext
  fin_cases a <;> blk_simp [index3] <;> rfl

/-- The block of the keys' documents and chunks at an index. -/
theorem read4 (t : Fin cfg0.N) (g : Fin 2) (s : Fin 512) :
    (show Vec Ideal S1x2x512 .i32 from iblk m d 4 t) (ix3 0 g s) = (show Vec Ideal S4x2x512 .i32 from V m d main_v38) (ix3 (seq t) g s) := by
  refine congrArg (show Vec Ideal S4x2x512 .i32 from V m d main_v38) ?_
  funext a
  apply Fin.ext
  fin_cases a <;> blk_simp [index4] <;> rfl

/-- The block of the keys at an index. -/
theorem read5 (t : Fin cfg0.N) (g : Fin 2) (s : Fin 512) (j : Fin 128) :
    (show Vec Ideal S1x2x512x128 .fp8e4m3 from iblk m d 5 t) (ix4 0 g s j) = (show Vec Ideal S4x2x512x128 .fp8e4m3 from V m d main_v40) (ix4 (seq t) g s j) := by
  refine congrArg (show Vec Ideal S4x2x512x128 .fp8e4m3 from V m d main_v40) ?_
  funext a
  apply Fin.ext
  fin_cases a <;> blk_simp [index5] <;> rfl

/-- The block of the keys' scales at an index. -/
theorem read6 (t : Fin cfg0.N) (g : Fin 2) (s : Fin 512) :
    (show Vec Ideal S1x2x512 .f32 from iblk m d 6 t) (ix3 0 g s) = (show Vec Ideal S4x2x512 .f32 from V m d main_v42) (ix3 (seq t) g s) := by
  refine congrArg (show Vec Ideal S4x2x512 .f32 from V m d main_v42) ?_
  funext a
  apply Fin.ext
  fin_cases a <;> blk_simp [index6] <;> rfl

/-- The block of the values at an index. -/
theorem read7 (t : Fin cfg0.N) (g : Fin 2) (s : Fin 512) (j : Fin 128) :
    (show Vec Ideal S1x2x512x128 .fp8e4m3 from iblk m d 7 t) (ix4 0 g s j) = (show Vec Ideal S4x2x512x128 .fp8e4m3 from V m d main_v41) (ix4 (seq t) g s j) := by
  refine congrArg (show Vec Ideal S4x2x512x128 .fp8e4m3 from V m d main_v41) ?_
  funext a
  apply Fin.ext
  fin_cases a <;> blk_simp [index7] <;> rfl

/-- The block of the values' scales at an index. -/
theorem read8 (t : Fin cfg0.N) (g : Fin 2) (s : Fin 512) :
    (show Vec Ideal S1x2x512 .f32 from iblk m d 8 t) (ix3 0 g s) = (show Vec Ideal S4x2x512 .f32 from V m d main_v43) (ix3 (seq t) g s) := by
  refine congrArg (show Vec Ideal S4x2x512 .f32 from V m d main_v43) ?_
  funext a
  apply Fin.ext
  fin_cases a <;> blk_simp [index8] <;> rfl

/-- At every grid point the input blocks hold what its queries read. -/
theorem holds (t : Fin cfg0.N) :
    Block.Holds (KernelHost.inputs (KernelHost.start m d)) (seq t) (pos t) (grid0.coords t) (iblk m d 0 t) (iblk m d 1 t) (iblk m d 2 t)
      (iblk m d 3 t) (iblk m d 4 t) (iblk m d 5 t) (iblk m d 6 t) (iblk m d 7 t) (iblk m d 8 t) where
  place r := rfl
  queries r j := (read0 m d t r j).trans (KernelHost.V_queries m d (seq t) (pos t r) j)
  cosines c r j := (read1 m d t c r j).trans (KernelHost.V_cos m d c (seq t) (pos t r) j)
  sines c r j := (read2 m d t c r j).trans (KernelHost.V_sin m d c (seq t) (pos t r) j)
  docs r := (read3 m d t r 0).trans (KernelHost.V_places m d (seq t) (pos t r) 0)
  chunks r := (read3 m d t r 1).trans (KernelHost.V_places m d (seq t) (pos t r) 1)
  keyDocs s := (read4 m d t 0 s).trans (KernelHost.V_keyPlaces m d (seq t) s 0)
  keyChunks s := (read4 m d t 1 s).trans (KernelHost.V_keyPlaces m d (seq t) s 1)
  keys g s j := (read5 m d t g s j).trans (KernelHost.V_keys m d (seq t) g s j)
  keyScales g s := (read6 m d t g s).trans (KernelHost.V_keyScales m d (seq t) g s)
  values g s j := (read7 m d t g s j).trans (KernelHost.V_values m d (seq t) g s j)
  valueScales g s := (read8 m d t g s).trans (KernelHost.V_valueScales m d (seq t) g s)

/-- The inputs on a device. -/
abbrev ins : Spec.Inputs := KernelHost.inputs (KernelHost.start m d)

/-- The output, as an array. -/
def outArray (I : Spec.Inputs) : Vec Ideal S4x512x1536 .bf16 :=
  fun y => Spec.out I (y 0) (y 1) (Block.headOf (y 2)) (Block.laneOf (y 2))

/-- The masses, as an array. -/
def massArray (I : Spec.Inputs) : Vec Ideal S3x4x512x12 .f32 := fun y => Spec.mass I (y 0) (y 1) (y 2) (y 3)

/-- The codes, as an array. -/
def codesArray (I : Spec.Inputs) : Vec Ideal S3x4x512x1536 .fp8e4m3 :=
  fun y => Spec.codes I (y 0) (y 1) (y 2) (Block.headOf (y 3)) (Block.laneOf (y 3))

/-- The scales, as an array. -/
def scalesArray (I : Spec.Inputs) : Vec Ideal S3x4x512x12 .f32 := fun y => Spec.scales I (y 0) (y 1) (y 2) (y 3)

/-- Where the output's block lies in the array. -/
theorem place9 (t : Fin cfg0.N) (y : S1x128x1536.Idx) :
    ((cfg0.win 9).blk t).view.emb y = (ix3 (seq t) (pos t (y 1)) (y 2) : S4x512x1536.Idx) := by
  obtain ⟨r, j, rfl⟩ : ∃ (r : Fin 128) (j : Fin 1536), y = ix3 (0 : Fin 1) r j :=
    ⟨y 1, y 2, (eq_ix3 y).trans (congrArg (fun a : Fin 1 => ix3 a (y 1 : Fin 128) (y 2 : Fin 1536)) (Subsingleton.elim _ _))⟩
  funext a
  apply Fin.ext
  fin_cases a <;> blk_simp [index9] <;> rfl

/-- The output after the run. -/
theorem out_array (S : Block.Small (ins m d)) : (dats m 0 d).arrAt 9 cfg0.N = outArray (ins m d) := by
  refine (dats m 0 d).arrAt_eq_of_covers 9 (outArray (ins m d)) (by decide +kernel) fun t hf y => ?_
  blk_simp
  rw [after0_9]
  exact (Block.out_block (holds m d t) S y).trans (congrArg (outArray (ins m d)) (place9 t y)).symm

/-- Where the masses' block lies in the array. -/
theorem place10 (t : Fin cfg0.N) (y : S3x1x128x12.Idx) :
    ((cfg0.win 10).blk t).view.emb y = (ix4 (y 0) (seq t) (pos t (y 2)) (y 3) : S3x4x512x12.Idx) := by
  obtain ⟨c, r, j, rfl⟩ : ∃ (c : Fin 3) (r : Fin 128) (j : Fin 12), y = ix4 c (0 : Fin 1) r j :=
    ⟨y 0, y 2, y 3, (eq_ix4 y).trans (congrArg (fun a : Fin 1 => ix4 (y 0 : Fin 3) a (y 2 : Fin 128) (y 3 : Fin 12)) (Subsingleton.elim _ _))⟩
  funext a
  apply Fin.ext
  fin_cases a <;> blk_simp [index10] <;> rfl

/-- Where the codes' block lies in the array. -/
theorem place11 (t : Fin cfg0.N) (y : S3x1x128x1536.Idx) :
    ((cfg0.win 11).blk t).view.emb y = (ix4 (y 0) (seq t) (pos t (y 2)) (y 3) : S3x4x512x1536.Idx) := by
  obtain ⟨c, r, j, rfl⟩ : ∃ (c : Fin 3) (r : Fin 128) (j : Fin 1536), y = ix4 c (0 : Fin 1) r j :=
    ⟨y 0, y 2, y 3, (eq_ix4 y).trans (congrArg (fun a : Fin 1 => ix4 (y 0 : Fin 3) a (y 2 : Fin 128) (y 3 : Fin 1536)) (Subsingleton.elim _ _))⟩
  funext a
  apply Fin.ext
  fin_cases a <;> blk_simp [index11] <;> rfl

/-- Where the scales' block lies in the array. -/
theorem place12 (t : Fin cfg0.N) (y : S3x1x128x12.Idx) :
    ((cfg0.win 12).blk t).view.emb y = (ix4 (y 0) (seq t) (pos t (y 2)) (y 3) : S3x4x512x12.Idx) := by
  obtain ⟨c, r, j, rfl⟩ : ∃ (c : Fin 3) (r : Fin 128) (j : Fin 12), y = ix4 c (0 : Fin 1) r j :=
    ⟨y 0, y 2, y 3, (eq_ix4 y).trans (congrArg (fun a : Fin 1 => ix4 (y 0 : Fin 3) a (y 2 : Fin 128) (y 3 : Fin 12)) (Subsingleton.elim _ _))⟩
  funext a
  apply Fin.ext
  fin_cases a <;> blk_simp [index12] <;> rfl

/-- The masses after the run. -/
theorem mass_array (S : Block.Small (ins m d)) : (dats m 0 d).arrAt 10 cfg0.N = massArray (ins m d) := by
  refine (dats m 0 d).arrAt_eq_of_covers 10 (massArray (ins m d)) (by decide +kernel) fun t hf y => ?_
  blk_simp
  rw [after0_10]
  exact (Block.mass_block (holds m d t) S y).trans (congrArg (massArray (ins m d)) (place10 t y)).symm

/-- The codes after the run. -/
theorem codes_array (S : Block.Small (ins m d)) : (dats m 0 d).arrAt 11 cfg0.N = codesArray (ins m d) := by
  refine (dats m 0 d).arrAt_eq_of_covers 11 (codesArray (ins m d)) (by decide +kernel) fun t hf y => ?_
  blk_simp
  rw [after0_11]
  exact (Block.codes_block (holds m d t) S y).trans (congrArg (codesArray (ins m d)) (place11 t y)).symm

/-- The scales after the run. -/
theorem scales_array (S : Block.Small (ins m d)) : (dats m 0 d).arrAt 12 cfg0.N = scalesArray (ins m d) := by
  refine (dats m 0 d).arrAt_eq_of_covers 12 (scalesArray (ins m d)) (by decide +kernel) fun t hf y => ?_
  blk_simp
  rw [after0_12]
  exact (Block.scales_block (holds m d t) S y).trans (congrArg (scalesArray (ins m d)) (place12 t y)).symm

end Cert.KernelArrays

end
-- ==== Proof.RefHost.lean ====
/- What the reference's host operations before its region leave in the array of queries the region reads, at an index:
   the rotated queries. -/
module

public import proofs.«01_k».proof.Proof.Gen.ReferenceIdeal.Frame
public import proofs.«01_k».proof.Proof.Spec
public import Idealize.ShloMosaic.Lib.Pointwise
public import Idealize.ShloMosaic.Lib.Claim

@[expose] public section

set_option maxRecDepth 16384

noncomputable section

namespace Cert.RefHost

open Cert.ReferenceIdeal Cert.ReferenceIdeal.Facts Cert.ReferenceIdeal.Facts₀ Idealize.ShloMosaic Idealize.ShloMosaic.TcCoe Idealize.SL.Sem
open Cert.ReferenceIdeal.Gen (hostOps0 hostOps0_1 hostOps0_2)

/-- The inputs an assignment of contents to the buffers holds. -/
def inputs (M : Valuation τ sig (Elt Ideal)) : Spec.Inputs where
  x b s j := (M main_arg0 : Vec Ideal S4x512x1536 .bf16) (ix3 b s j)
  doc b s := (M main_arg1 : Vec Ideal S4x512 .i32) (ix2 b s)
  k b t g j := (M main_arg2 : Vec Ideal S4x512x2x128 .fp8e4m3) (ix4 b t g j)
  ks b t g := (M main_arg3 : Vec Ideal S4x512x2 .f32) (ix3 b t g)
  v b t g j := (M main_arg4 : Vec Ideal S4x512x2x128 .fp8e4m3) (ix4 b t g j)
  vs b t g := (M main_arg5 : Vec Ideal S4x512x2 .f32) (ix3 b t g)

variable (U : Valuation τ sig (Elt Ideal))

/-! ### The first operations: positions less their documents' starts, and the queries by heads -/

/-- A position less its document's start. -/
theorem rel_at (b : Fin 4) (s : Fin 512) :
    (show Vec Ideal S4x512 .i32 from StableHlo.after hostOps0 U main_v5) (ix2 b s) = Spec.rel (inputs U) b s := by
  after_results_simp
  pointwise
  rfl

/-- The chunk length. -/
theorem length_at : (show Vec Ideal S_ .i32 from StableHlo.after hostOps0 U main_c) = constantI S_ 32 112#32 := by
  after_results_simp

/-- The queries by heads. -/
theorem heads_at (b : Fin 4) (s : Fin 512) (h : Fin 12) (j : Fin 128) :
    (show Vec Ideal S1x4x512x12x128 .f32 from StableHlo.after hostOps0 U main_v2) (ix5 0 b s h j)
      = (inputs U).x b s ⟨128 * h.val + j.val, by omega⟩ := by
  after_results_simp
  pointwise
  exact congrArg (fun i => (inputs U).x b s i) (Fin.ext (by show h.val * 128 + j.val = 128 * h.val + j.val; omega))

/-! ### The remainder -/

/-- The remainder of a position less its document's start. -/
theorem modulo_at (b : Fin 4) (s : Fin 512) (h : (U main_c : Vec Ideal S_ .i32) = constantI S_ 32 112#32) :
    (show Vec Ideal S4x512 .i32 from StableHlo.after hostOps0_1 U main_v6) (ix2 b s)
      = Spec.modulo ((U main_v5 : Vec Ideal S4x512 .i32) (ix2 b s)) := by
  after_results_simp
  rw [h]
  rfl

/-- The remainder's operations leave the queries alone. -/
theorem keep1_v2 : StableHlo.after hostOps0_1 U main_v2 = U main_v2 := by after_results_simp

/-! ### The angles -/

/-- The first operations of the rotations: the three positions. -/
abbrev ops2a : List (HloOp τ sig (Elt Ideal)) := hostOps0_2.take 11
/-- The next: the angles. -/
abbrev ops2b : List (HloOp τ sig (Elt Ideal)) := (hostOps0_2.drop 11).take 23
/-- The next: their cosines and sines, and the queries' halves. -/
abbrev ops2c : List (HloOp τ sig (Elt Ideal)) := (hostOps0_2.drop 34).take 4
/-- The next: the two rotated coordinates. -/
abbrev ops2d : List (HloOp τ sig (Elt Ideal)) := (hostOps0_2.drop 38).take 14
/-- The last: the coordinates side by side. -/
abbrev ops2e : List (HloOp τ sig (Elt Ideal)) := hostOps0_2.drop 52

/-- The rotations' operations are their five parts in a row. -/
theorem ops2_split : (hostOps0_2 : List (HloOp τ sig (Elt Ideal))) = ops2a ++ ops2b ++ ops2c ++ ops2d ++ ops2e := rfl

/-- The position of the same chunk. -/
theorem first_at (b : Fin 4) (s : Fin 512) :
    (show Vec Ideal S1x4x512 .i32 from StableHlo.after ops2a U main_v12) (ix3 0 b s) = (U main_v6 : Vec Ideal S4x512 .i32) (ix2 b s) := by
  simp only [ops2a, hostOps0_2, List.take]
  after_results_simp
  pointwise

/-- The position of the next chunk. -/
theorem second_at (b : Fin 4) (s : Fin 512) :
    (show Vec Ideal S1x4x512 .i32 from StableHlo.after ops2a U main_v13) (ix3 0 b s)
      = IntOp.minsi (IntOp.addi 112#32 ((U main_v6 : Vec Ideal S4x512 .i32) (ix2 b s))) 159#32 := by
  simp only [ops2a, hostOps0_2, List.take]
  after_results_simp
  pointwise

/-- The position of the later chunks. -/
theorem third_at (b : Fin 4) (s : Fin 512) :
    (show Vec Ideal S1x4x512 .i32 from StableHlo.after ops2a U main_v14) (ix3 0 b s) = 159#32 := by
  simp only [ops2a, hostOps0_2, List.take]
  after_results_simp
  pointwise

/-- The positions' operations leave the queries alone. -/
theorem keep2a_v2 : StableHlo.after ops2a U main_v2 = U main_v2 := by
  simp only [ops2a, hostOps0_2, List.take]
  after_results_simp

/-- The angles from the three positions. -/
theorem angle_at (c : Fin 3) (b : Fin 4) (s : Fin 512) (j : Fin 64) (t : BitVec 32)
    (h0 : (U main_v12 : Vec Ideal S1x4x512 .i32) (ix3 0 b s) = t)
    (h1 : (U main_v13 : Vec Ideal S1x4x512 .i32) (ix3 0 b s) = IntOp.minsi (IntOp.addi 112#32 t) 159#32)
    (h2 : (U main_v14 : Vec Ideal S1x4x512 .i32) (ix3 0 b s) = 159#32) :
    (show Vec Ideal S3x4x512x1x64 .f32 from StableHlo.after ops2b U main_v32) (ix5 c b s 0 j) = Spec.angle c t j := by
  simp only [ops2b, hostOps0_2, List.take, List.drop]
  after_results_simp
  pointwise
  fin_cases c
  · exact congrArg (fun p => FloatOps.sitofp (F := Ideal) FTy.f32 p * Spec.freq j) h0
  · exact congrArg (fun p => FloatOps.sitofp (F := Ideal) FTy.f32 p * Spec.freq j) h1
  · exact congrArg (fun p => FloatOps.sitofp (F := Ideal) FTy.f32 p * Spec.freq j) h2

/-- The angles' operations leave the queries alone. -/
theorem keep2b_v2 : StableHlo.after ops2b U main_v2 = U main_v2 := by
  simp only [ops2b, hostOps0_2, List.take, List.drop]
  after_results_simp

/-- The cosines. -/
theorem cos_at (c : Fin 3) (b : Fin 4) (s : Fin 512) (j : Fin 64) :
    (show Vec Ideal S3x4x512x1x64 .f32 from StableHlo.after ops2c U main_v33) (ix5 c b s 0 j)
      = Ideal.cos ((U main_v32 : Vec Ideal S3x4x512x1x64 .f32) (ix5 c b s 0 j)) := by
  simp only [ops2c, hostOps0_2, List.take, List.drop]
  after_results_simp
  rfl

/-- The sines. -/
theorem sin_at (c : Fin 3) (b : Fin 4) (s : Fin 512) (j : Fin 64) :
    (show Vec Ideal S3x4x512x1x64 .f32 from StableHlo.after ops2c U main_v34) (ix5 c b s 0 j)
      = Ideal.sin ((U main_v32 : Vec Ideal S3x4x512x1x64 .f32) (ix5 c b s 0 j)) := by
  simp only [ops2c, hostOps0_2, List.take, List.drop]
  after_results_simp
  rfl

/-- The first half of a query. -/
theorem left_at (b : Fin 4) (s : Fin 512) (h : Fin 12) (j : Fin 64) :
    (show Vec Ideal S1x4x512x12x64 .f32 from StableHlo.after ops2c U main_v35) (ix5 0 b s h j)
      = (U main_v2 : Vec Ideal S1x4x512x12x128 .f32) (ix5 0 b s h ⟨j.val, by omega⟩) := by
  simp only [ops2c, hostOps0_2, List.take, List.drop]
  after_results_simp
  pointwise

/-- The second half of a query. -/
theorem right_at (b : Fin 4) (s : Fin 512) (h : Fin 12) (j : Fin 64) :
    (show Vec Ideal S1x4x512x12x64 .f32 from StableHlo.after ops2c U main_v36) (ix5 0 b s h j)
      = (U main_v2 : Vec Ideal S1x4x512x12x128 .f32) (ix5 0 b s h ⟨64 + j.val, by omega⟩) := by
  simp only [ops2c, hostOps0_2, List.take, List.drop]
  after_results_simp
  pointwise

/-- A half of the queries, once for each rotation. -/
theorem spreadHalf_at (v : FVec Ideal S1x4x512x12x64 .f32) (c : Fin 3) (b : Fin 4) (s : Fin 512) (h : Fin 12) (j : Fin 64) :
    broadcastInDim S3x4x512x12x64 ![0, 1, 2, 3, 4] bcast_S1x4x512x12x64_S3x4x512x12x64_0_1_2_3_4 v (ix5 c b s h j) = v (ix5 0 b s h j) := by
  pointwise

/-- Cosines or sines, once for each head. -/
theorem spreadAngle_at (v : FVec Ideal S3x4x512x1x64 .f32) (c : Fin 3) (b : Fin 4) (s : Fin 512) (h : Fin 12) (j : Fin 64) :
    broadcastInDim S3x4x512x12x64 ![0, 1, 2, 3, 4] bcast_S3x4x512x1x64_S3x4x512x12x64_0_1_2_3_4 v (ix5 c b s h j) = v (ix5 c b s 0 j) := by
  pointwise

/-- A rotated first coordinate. -/
theorem firstCoordinate_at (c : Fin 3) (b : Fin 4) (s : Fin 512) (h : Fin 12) (j : Fin 64) (x y u w : EReal)
    (hx : (U main_v35 : Vec Ideal S1x4x512x12x64 .f32) (ix5 0 b s h j) = x)
    (hy : (U main_v36 : Vec Ideal S1x4x512x12x64 .f32) (ix5 0 b s h j) = y)
    (hu : (U main_v33 : Vec Ideal S3x4x512x1x64 .f32) (ix5 c b s 0 j) = u)
    (hw : (U main_v34 : Vec Ideal S3x4x512x1x64 .f32) (ix5 c b s 0 j) = w) :
    (show Vec Ideal S3x4x512x12x64 .f32 from StableHlo.after ops2d U main_v43) (ix5 c b s h j) = x * u - y * w := by
  rw [← spreadHalf_at (U main_v35) c] at hx
  rw [← spreadHalf_at (U main_v36) c] at hy
  rw [← spreadAngle_at (U main_v33) c b s h] at hu
  rw [← spreadAngle_at (U main_v34) c b s h] at hw
  rw [← hx, ← hy, ← hu, ← hw]
  simp only [ops2d, hostOps0_2, List.take, List.drop]
  after_results_simp
  rfl

/-- A rotated second coordinate. -/
theorem secondCoordinate_at (c : Fin 3) (b : Fin 4) (s : Fin 512) (h : Fin 12) (j : Fin 64) (x y u w : EReal)
    (hx : (U main_v35 : Vec Ideal S1x4x512x12x64 .f32) (ix5 0 b s h j) = x)
    (hy : (U main_v36 : Vec Ideal S1x4x512x12x64 .f32) (ix5 0 b s h j) = y)
    (hu : (U main_v33 : Vec Ideal S3x4x512x1x64 .f32) (ix5 c b s 0 j) = u)
    (hw : (U main_v34 : Vec Ideal S3x4x512x1x64 .f32) (ix5 c b s 0 j) = w) :
    (show Vec Ideal S3x4x512x12x64 .f32 from StableHlo.after ops2d U main_v50) (ix5 c b s h j) = y * u + x * w := by
  rw [← spreadHalf_at (U main_v35) c] at hx
  rw [← spreadHalf_at (U main_v36) c] at hy
  rw [← spreadAngle_at (U main_v33) c b s h] at hu
  rw [← spreadAngle_at (U main_v34) c b s h] at hw
  rw [← hx, ← hy, ← hu, ← hw]
  simp only [ops2d, hostOps0_2, List.take, List.drop]
  after_results_simp
  rfl

/-- Two halves side by side. -/
theorem join_at (u v : FVec Ideal S3x4x512x12x64 .f32) (c : Fin 3) (b : Fin 4) (s : Fin 512) (h : Fin 12) (j : Fin 128) :
    concatenate S3x4x512x12x128 4 [⟨S3x4x512x12x64, u⟩, ⟨S3x4x512x12x64, v⟩] concatenates_S3x4x512x12x64_S3x4x512x12x64_S3x4x512x12x128_d4 (ix5 c b s h j)
      = if h' : j.val < 64 then u (ix5 c b s h ⟨j.val, h'⟩) else v (ix5 c b s h ⟨j.val - 64, by omega⟩) := by
  pointwise

/-- The two rotated coordinates side by side. -/
theorem joined_at (c : Fin 3) (b : Fin 4) (s : Fin 512) (h : Fin 12) (j : Fin 128) :
    (show Vec Ideal S3x4x512x12x128 .f32 from StableHlo.after ops2e U main_v51) (ix5 c b s h j)
      = if h' : j.val < 64 then (U main_v43 : Vec Ideal S3x4x512x12x64 .f32) (ix5 c b s h ⟨j.val, h'⟩)
        else (U main_v50 : Vec Ideal S3x4x512x12x64 .f32) (ix5 c b s h ⟨j.val - 64, by omega⟩) := by
  rw [← join_at]
  simp only [ops2e, hostOps0_2, List.drop]
  after_results_simp

/-! ### All the operations -/

/-- The operations before the region, one part after another. -/
theorem parts (M : Valuation τ sig (Elt Ideal)) :
    StableHlo.after (List.flatten [hostOps0, hostOps0_1, hostOps0_2]) M
      = StableHlo.after ops2e (StableHlo.after ops2d (StableHlo.after ops2c (StableHlo.after ops2b (StableHlo.after ops2a
          (StableHlo.after hostOps0_1 (StableHlo.after hostOps0 M)))))) := by
  rw [show (List.flatten [hostOps0, hostOps0_1, hostOps0_2] : List (HloOp τ sig (Elt Ideal)))
    = hostOps0 ++ hostOps0_1 ++ (ops2a ++ ops2b ++ ops2c ++ ops2d ++ ops2e) from rfl]
  simp only [StableHlo.after_append]

/-- What the angles' operations leave. -/
theorem angles_at (c : Fin 3) (b : Fin 4) (s : Fin 512) (j : Fin 64) :
    (show Vec Ideal S3x4x512x1x64 .f32 from StableHlo.after ops2b (StableHlo.after ops2a U) main_v32) (ix5 c b s 0 j)
      = Spec.angle c ((U main_v6 : Vec Ideal S4x512 .i32) (ix2 b s)) j :=
  angle_at _ c b s j _ (first_at U b s) (second_at U b s) (third_at U b s)

variable (m : (ℓ : Loc nD τ sig) → Buf (Elt Ideal) ℓ) (d : Dev nD)

/-- The contents a device starts from. -/
abbrev start : Valuation τ sig (Elt Ideal) := fun b => m (d, b)

/-- The contents after the angles. -/
abbrev turned : Valuation τ sig (Elt Ideal) :=
  StableHlo.after ops2b (StableHlo.after ops2a (StableHlo.after hostOps0_1 (StableHlo.after hostOps0 (start m d))))

/-- The angle of a rotation. -/
theorem angle_start (c : Fin 3) (b : Fin 4) (s : Fin 512) (j : Fin 64) :
    (show Vec Ideal S3x4x512x1x64 .f32 from turned m d main_v32) (ix5 c b s 0 j)
      = Spec.angle c (Spec.modulo (Spec.rel (inputs (start m d)) b s)) j :=
  (angles_at _ c b s j).trans (congrArg (fun t => Spec.angle c t j)
    ((modulo_at _ b s (length_at _)).trans (congrArg Spec.modulo (rel_at _ b s))))

/-- The queries by heads. -/
theorem heads_start (b : Fin 4) (s : Fin 512) (h : Fin 12) (j : Fin 128) :
    (show Vec Ideal S1x4x512x12x128 .f32 from turned m d main_v2) (ix5 0 b s h j)
      = (inputs (start m d)).x b s ⟨128 * h.val + j.val, by omega⟩ := by
  rw [turned, keep2b_v2, keep2a_v2, keep1_v2]
  exact heads_at _ b s h j

/-- The cosines of the rotations. -/
theorem cos_start (c : Fin 3) (b : Fin 4) (s : Fin 512) (j : Fin 64) :
    (show Vec Ideal S3x4x512x1x64 .f32 from StableHlo.after ops2c (turned m d) main_v33) (ix5 c b s 0 j)
      = Ideal.cos (Spec.angle c (Spec.modulo (Spec.rel (inputs (start m d)) b s)) j) :=
  (cos_at _ c b s j).trans (congrArg Ideal.cos (angle_start m d c b s j))

/-- The sines of the rotations. -/
theorem sin_start (c : Fin 3) (b : Fin 4) (s : Fin 512) (j : Fin 64) :
    (show Vec Ideal S3x4x512x1x64 .f32 from StableHlo.after ops2c (turned m d) main_v34) (ix5 c b s 0 j)
      = Ideal.sin (Spec.angle c (Spec.modulo (Spec.rel (inputs (start m d)) b s)) j) :=
  (sin_at _ c b s j).trans (congrArg Ideal.sin (angle_start m d c b s j))

/-- The first halves of the queries. -/
theorem left_start (b : Fin 4) (s : Fin 512) (h : Fin 12) (j : Fin 64) :
    (show Vec Ideal S1x4x512x12x64 .f32 from StableHlo.after ops2c (turned m d) main_v35) (ix5 0 b s h j)
      = (inputs (start m d)).x b s ⟨128 * h.val + j.val, by omega⟩ :=
  (left_at _ b s h j).trans (heads_start m d b s h _)

/-- The second halves of the queries. -/
theorem right_start (b : Fin 4) (s : Fin 512) (h : Fin 12) (j : Fin 64) :
    (show Vec Ideal S1x4x512x12x64 .f32 from StableHlo.after ops2c (turned m d) main_v36) (ix5 0 b s h j)
      = (inputs (start m d)).x b s ⟨128 * h.val + (64 + j.val), by omega⟩ :=
  (right_at _ b s h j).trans (heads_start m d b s h _)

/-- The rotated queries the region reads. -/
theorem V_query (c : Fin 3) (b : Fin 4) (s : Fin 512) (h : Fin 12) (j : Fin 128) :
    (show Vec Ideal S3x4x512x12x128 .f32 from Gen.V m d main_v51) (ix5 c b s h j)
      = Spec.query (inputs (start m d)) c b s h j := by
  show (show Vec Ideal S3x4x512x12x128 .f32 from StableHlo.after (List.flatten [hostOps0, hostOps0_1, hostOps0_2]) (start m d) main_v51) (ix5 c b s h j) = _
  rw [parts]
  refine (joined_at _ c b s h j).trans ?_
  unfold Spec.query Spec.rotate
  split
  · next h' =>
    exact firstCoordinate_at (StableHlo.after ops2c (turned m d)) c b s h ⟨j.val, h'⟩ _ _ _ _
      (left_start m d b s h _) (right_start m d b s h _) (cos_start m d c b s _) (sin_start m d c b s _)
  · next h' =>
    exact secondCoordinate_at (StableHlo.after ops2c (turned m d)) c b s h ⟨j.val - 64, by omega⟩ _ _ _ _
      (left_start m d b s h _) (right_start m d b s h _) (cos_start m d c b s _) (sin_start m d c b s _)

/-- The keys the region reads. -/
theorem V_keys (b : Fin 4) (t : Fin 512) (g : Fin 2) (j : Fin 128) :
    (show Vec Ideal S4x512x2x128 .fp8e4m3 from Gen.V m d main_arg2) (ix4 b t g j) = (inputs (start m d)).k b t g j := by
  rw [show Gen.V m d main_arg2 = _ from Gen.V_main_arg2 m d]
  rfl

/-- The values the region reads. -/
theorem V_values (b : Fin 4) (t : Fin 512) (g : Fin 2) (j : Fin 128) :
    (show Vec Ideal S4x512x2x128 .fp8e4m3 from Gen.V m d main_arg4) (ix4 b t g j) = (inputs (start m d)).v b t g j := by
  rw [show Gen.V m d main_arg4 = _ from Gen.V_main_arg4 m d]
  rfl

end Cert.RefHost

end
-- ==== Proof.Region.lean ====
/- What the reference's quantiser computes, read at an index: each row's scale and codes from the row's largest
   magnitude. -/
module

public import proofs.«01_k».proof.Proof.Scale
public import proofs.«01_k».proof.Proof.Gen.ReferenceIdeal.Skeleton
public import Idealize.ShloMosaic.Lib.Pointwise

@[expose] public section

noncomputable section

namespace Cert.Region

open Cert.ReferenceIdeal Cert.ReferenceIdeal.Facts Cert.ReferenceIdeal.Facts₀ Idealize.ShloMosaic
open Cert.ReferenceIdeal.Gen (k0_pay3 k0_pay4 k0_pay5 k0_pay6 k0_pay7 k0_pay8)

/-- Each row's largest magnitude over 448. -/
def tops (q : FVec Ideal S3x4x512x12x128 .f32) : FVec Ideal S3x4x512x12x1 .f32 :=
  mulf (shapeCast S3x4x512x12x1 (multiReduction .maximumf [4] S3x4x512x12 (absf q) 0xFF800000#32 reduces_S3x4x512x12x128_S3x4x512x12 (.inl rfl) rfl)
      shapeCasts_S3x4x512x12_S3x4x512x12x1)
    (broadcast S3x4x512x12x1 (Scalar.ofBits .f32 0x3B124925#32))

/-- A last dimension of one entry added to an array. -/
theorem cast_at (v : FVec Ideal S3x4x512x12 .f32) (c : Fin 3) (b : Fin 4) (s : Fin 512) (h : Fin 12) :
    shapeCast S3x4x512x12x1 v shapeCasts_S3x4x512x12_S3x4x512x12x1 (ix5 c b s h 0) = v (ix4 c b s h) := by
  pointwise

/-- The largest entry of a row. -/
theorem max_at (v : FVec Ideal S3x4x512x12x128 .f32) (c : Fin 3) (b : Fin 4) (s : Fin 512) (h : Fin 12) :
    multiReduction .maximumf [4] S3x4x512x12 v 0xFF800000#32 reduces_S3x4x512x12x128_S3x4x512x12 (.inl rfl) rfl (ix4 c b s h)
      = Finset.fold max (Ideal.ofBits FTy.f32 0xFF800000#32) (fun j => v (ix5 c b s h j)) Finset.univ := by
  pointwise

/-- An array with one entry to a row spread along the row. -/
theorem spread_at (v : FVec Ideal S3x4x512x12x1 .f32) (c : Fin 3) (b : Fin 4) (s : Fin 512) (h : Fin 12) (j : Fin 128) :
    broadcastTo S3x4x512x12x128 v broadcasts_S3x4x512x12x1_S3x4x512x12x128 (ix5 c b s h j) = v (ix5 c b s h 0) := by
  pointwise

/-- A product of arrays at an index. -/
theorem mulf_at {s : Shape} (u v : FVec Ideal s .f32) (i : s.Idx) : mulf u v i = (u i * v i : EReal) := rfl

/-- Each row's largest magnitude over 448, at an index. -/
theorem tops_at (q : FVec Ideal S3x4x512x12x128 .f32) (c : Fin 3) (b : Fin 4) (s : Fin 512) (h : Fin 12) :
    tops q (ix5 c b s h 0) = Finset.fold max (Ideal.ofBits FTy.f32 0xFF800000#32) (fun j => FloatOps.absf (F := Ideal) (q (ix5 c b s h j))) Finset.univ
      * Ideal.ofBits FTy.f32 0x3B124925#32 := by
  unfold tops
  rw [mulf_at, cast_at, max_at]
  rfl

/-- The exponents of the scales. -/
def expos {s : Shape} (a : FVec Ideal s .f32) : FVec Ideal s .f32 :=
  select (cmpf .olt a (broadcast s (Scalar.ofBits .f32 0x00800000#32))) (broadcast s (Scalar.ofBits .f32 0x00000000#32))
    (addf (floor (divf (log a) (log (broadcast s (Scalar.ofBits .f32 0x40000000#32))))) (broadcast s (Scalar.ofBits .f32 0x3F800000#32)))

/-- The exponents at an index. -/
theorem expos_at {s : Shape} (a : FVec Ideal s .f32) (i : s.Idx) : expos a i = Scale.exponent (a i) := by
  rw [Scale.exponent, ← Ideal.ofBits_zero_f32]
  rfl

/-- The exponents the region computes. -/
theorem pay4_eq (q : FVec Ideal S3x4x512x12x128 .f32) : k0_pay4 (F := Ideal) q = expos (tops (k0_pay3 (F := Ideal) q)) := rfl

/-- The queries the region reads. -/
theorem pay3_eq (q : FVec Ideal S3x4x512x12x128 .f32) : k0_pay3 (F := Ideal) q = q := shapeCast_id _ _

/-- A power of two, elementwise. -/
def pows {s : Shape} (e : FVec Ideal s .f32) : FVec Ideal s .f32 := powf (broadcast s (Scalar.ofBits .f32 0x40000000#32)) e

/-- A power of two at an index. -/
theorem pows_at {s : Shape} (e : FVec Ideal s .f32) (i : s.Idx) : pows e i = Ideal.pow Scale.two (e i) := rfl

/-- The negated exponents. -/
def negs {s : Shape} (e : FVec Ideal s .f32) : FVec Ideal s .f32 := subf (broadcast s (Scalar.ofBits .f32 0x00000000#32)) e

/-- A negated exponent at an index. -/
theorem negs_at {s : Shape} (e : FVec Ideal s .f32) (i : s.Idx) : negs e i = 0 - e i := by
  rw [← Ideal.ofBits_zero_f32]
  rfl

/-- Clipping to the codes' range. -/
def clips {s : Shape} (v : FVec Ideal s .f32) : FVec Ideal s .fp8e4m3 :=
  truncf .fp8e4m3 (minimumf (broadcast s (Scalar.ofBits .f32 0x43E00000#32)) (maximumf (broadcast s (Scalar.ofBits .f32 0xC3E00000#32)) v))
    bitsLt_fp8e4m3_f32

/-- Clipping at an index. -/
theorem clips_at {s : Shape} (v : FVec Ideal s .f32) (i : s.Idx) :
    clips v i = min (Ideal.ofBits FTy.f32 0x43E00000#32) (max (Ideal.ofBits FTy.f32 0xC3E00000#32) (v i)) := rfl

/-- The scales the region computes. -/
theorem pay7_eq (q : FVec Ideal S3x4x512x12x128 .f32) : k0_pay7 (F := Ideal) q = pows (k0_pay4 (F := Ideal) q) := rfl

/-- The codes the region computes. -/
theorem pay6_eq (q : FVec Ideal S3x4x512x12x128 .f32) : k0_pay6 (F := Ideal) q
    = clips (mulf (k0_pay3 (F := Ideal) q) (broadcastTo S3x4x512x12x128 (pows (negs (k0_pay4 (F := Ideal) q))) broadcasts_S3x4x512x12x1_S3x4x512x12x128)) := rfl

/-- A row's largest magnitude over 448. -/
def top (q : Fin 128 → EReal) : EReal :=
  Finset.fold max (Ideal.ofBits FTy.f32 0xFF800000#32) (fun j => FloatOps.absf (F := Ideal) (φ := .f32) (q j)) Finset.univ * Ideal.ofBits FTy.f32 0x3B124925#32

/-- A row's scale. -/
theorem scales_at (q : FVec Ideal S3x4x512x12x128 .f32) (c : Fin 3) (b : Fin 4) (s : Fin 512) (h : Fin 12) :
    k0_pay7 (F := Ideal) q (ix5 c b s h 0) = Scale.scale (top fun j => q (ix5 c b s h j)) := by
  rw [pay7_eq, pows_at, pay4_eq, expos_at, pay3_eq, tops_at]
  rfl

/-- A row's codes. -/
theorem codes_at (q : FVec Ideal S3x4x512x12x128 .f32) (c : Fin 3) (b : Fin 4) (s : Fin 512) (h : Fin 12) (j : Fin 128) :
    k0_pay6 (F := Ideal) q (ix5 c b s h j) = min (Ideal.ofBits FTy.f32 0x43E00000#32) (max (Ideal.ofBits FTy.f32 0xC3E00000#32)
      (q (ix5 c b s h j) * Scale.inv (top fun j => q (ix5 c b s h j)))) := by
  rw [pay6_eq, clips_at, mulf_at, spread_at, pows_at, negs_at, pay4_eq, expos_at, pay3_eq, tops_at]
  rfl

end Cert.Region

end
-- ==== Proof.RefRegion.lean ====
/- What the reference's region leaves in its five arrays, at an index: the codes and scales of the rotated queries, the
   codes as numbers, and the keys and values as numbers. -/
module

public import proofs.«01_k».proof.Proof.Gen.ReferenceIdeal.Run
public import proofs.«01_k».proof.Proof.RefHost
public import proofs.«01_k».proof.Proof.Region
public import Idealize.ShloMosaic.Lib.Pipeline.ValueKit

@[expose] public section

set_option maxRecDepth 16384

noncomputable section

namespace Cert.RefRegion

open Cert.ReferenceIdeal Cert.ReferenceIdeal.Gen Idealize.ShloMosaic Idealize.ShloMosaic.TcCoe Idealize.SL.Sem
open Cert.ReferenceIdeal.Value (reg_main_v52_0 reg_main_v52_1 reg_main_v52_2 reg_main_v52_3 reg_main_v52_4)

variable (m : (ℓ : Loc nD τ sig) → Buf (Elt Ideal) ℓ) (d : Dev nD)

/-- The rotated queries the region reads. -/
abbrev Q : Vec Ideal S3x4x512x12x128 .f32 := V m d main_v51
/-- The keys the region reads. -/
abbrev K : Vec Ideal S4x512x2x128 .fp8e4m3 := V m d main_arg2
/-- The values the region reads. -/
abbrev W : Vec Ideal S4x512x2x128 .fp8e4m3 := V m d main_arg4

/-- Five zeros. -/
theorem zero5 : (![0, 0, 0, 0, 0] : Fin 5 → Nat) = fun _ => 0 := by decide
/-- Four zeros. -/
theorem zero4 : (![0, 0, 0, 0] : Fin 4 → Nat) = fun _ => 0 := by decide

/-- Window 0's block lies at the start. -/
theorem index0 : ∀ t : Fin grid0.N, win0_0.index t = ![0, 0, 0, 0, 0] := by decide +kernel
/-- Window 1's block lies at the start. -/
theorem index1 : ∀ t : Fin grid0.N, win0_1.index t = ![0, 0, 0, 0] := by decide +kernel
/-- Window 2's block lies at the start. -/
theorem index2 : ∀ t : Fin grid0.N, win0_2.index t = ![0, 0, 0, 0] := by decide +kernel
/-- Window 3's block lies at the start. -/
theorem index3 : ∀ t : Fin grid0.N, win0_3.index t = ![0, 0, 0, 0, 0] := by decide +kernel
/-- Window 4's block lies at the start. -/
theorem index4 : ∀ t : Fin grid0.N, win0_4.index t = ![0, 0, 0, 0, 0] := by decide +kernel
/-- Window 5's block lies at the start. -/
theorem index5 : ∀ t : Fin grid0.N, win0_5.index t = ![0, 0, 0, 0, 0] := by decide +kernel
/-- Window 6's block lies at the start. -/
theorem index6 : ∀ t : Fin grid0.N, win0_6.index t = ![0, 0, 0, 0] := by decide +kernel
/-- Window 7's block lies at the start. -/
theorem index7 : ∀ t : Fin grid0.N, win0_7.index t = ![0, 0, 0, 0] := by decide +kernel

/-- The one block of the queries is all of them. -/
theorem block0 (t : Fin cfg0.N) : (iblk m d 0 t : Vec Ideal S3x4x512x12x128 .f32) = Q m d := by
  funext y
  refine congrArg (Q m d) ?_
  funext a
  apply Fin.ext
  fin_cases a <;> blk_simp [index0] <;> exact Nat.zero_add _

/-- The one block of the keys is all of them. -/
theorem block1 (t : Fin cfg0.N) : (iblk m d 1 t : Vec Ideal S4x512x2x128 .fp8e4m3) = K m d := by
  funext y
  refine congrArg (K m d) ?_
  funext a
  apply Fin.ext
  fin_cases a <;> blk_simp [index1] <;> exact Nat.zero_add _

/-- The one block of the values is all of them. -/
theorem block2 (t : Fin cfg0.N) : (iblk m d 2 t : Vec Ideal S4x512x2x128 .fp8e4m3) = W m d := by
  funext y
  refine congrArg (W m d) ?_
  funext a
  apply Fin.ext
  fin_cases a <;> blk_simp [index2] <;> exact Nat.zero_add _

/-- The codes after the body. -/
theorem out3 (q : Vec Ideal S3x4x512x12x128 .f32) (k v : Vec Ideal S4x512x2x128 .fp8e4m3) : out0_3 q k v = k0_pay6 (F := Ideal) q := by
  unfold out0_3
  rw [View.canon_unit_zero zero5, View.ld_unit_zero zero5]

/-- The block of the codes is the whole array. -/
theorem place3 (t : Fin cfg0.N) (y : S3x4x512x12x128.Idx) : ((cfg0.win 3).blk t).view.emb y = (y : S3x4x512x12x128.Idx) := by
  funext a
  apply Fin.ext
  fin_cases a <;> blk_simp [index3] <;> exact Nat.zero_add _

/-- The codes after the region. -/
theorem array3 : (dats m 0 d).arrAt 3 cfg0.N = k0_pay6 (F := Ideal) (Q m d) := by
  refine (dats m 0 d).arrAt_eq_of_covers 3 (k0_pay6 (F := Ideal) (Q m d)) (by decide +kernel) fun t hf y => ?_
  blk_simp
  rw [after0_3, out3, block0 m d t]
  exact (congrArg (k0_pay6 (F := Ideal) (Q m d)) (place3 t y)).symm

/-- The scales after the body. -/
theorem out4 (q : Vec Ideal S3x4x512x12x128 .f32) (k v : Vec Ideal S4x512x2x128 .fp8e4m3) : out0_4 q k v = k0_pay7 (F := Ideal) q := by
  unfold out0_4
  rw [View.canon_unit_zero zero5, View.ld_unit_zero zero5]

/-- The block of the scales is the whole array. -/
theorem place4 (t : Fin cfg0.N) (y : S3x4x512x12x1.Idx) : ((cfg0.win 4).blk t).view.emb y = (y : S3x4x512x12x1.Idx) := by
  funext a
  apply Fin.ext
  fin_cases a <;> blk_simp [index4] <;> exact Nat.zero_add _

/-- The scales after the region. -/
theorem array4 : (dats m 0 d).arrAt 4 cfg0.N = k0_pay7 (F := Ideal) (Q m d) := by
  refine (dats m 0 d).arrAt_eq_of_covers 4 (k0_pay7 (F := Ideal) (Q m d)) (by decide +kernel) fun t hf y => ?_
  blk_simp
  rw [after0_4, out4, block0 m d t]
  exact (congrArg (k0_pay7 (F := Ideal) (Q m d)) (place4 t y)).symm

/-- The codes as numbers after the body. -/
theorem out5 (q : Vec Ideal S3x4x512x12x128 .f32) (k v : Vec Ideal S4x512x2x128 .fp8e4m3) : out0_5 q k v = k0_pay8 (F := Ideal) q := by
  unfold out0_5
  rw [View.canon_unit_zero zero5, View.ld_unit_zero zero5]

/-- The block of the codes as numbers is the whole array. -/
theorem place5 (t : Fin cfg0.N) (y : S3x4x512x12x128.Idx) : ((cfg0.win 5).blk t).view.emb y = (y : S3x4x512x12x128.Idx) := by
  funext a
  apply Fin.ext
  fin_cases a <;> blk_simp [index5] <;> exact Nat.zero_add _

/-- The codes as numbers after the region. -/
theorem array5 : (dats m 0 d).arrAt 5 cfg0.N = k0_pay8 (F := Ideal) (Q m d) := by
  refine (dats m 0 d).arrAt_eq_of_covers 5 (k0_pay8 (F := Ideal) (Q m d)) (by decide +kernel) fun t hf y => ?_
  blk_simp
  rw [after0_5, out5, block0 m d t]
  exact (congrArg (k0_pay8 (F := Ideal) (Q m d)) (place5 t y)).symm

/-- The keys as numbers after the body. -/
theorem out6 (q : Vec Ideal S3x4x512x12x128 .f32) (k v : Vec Ideal S4x512x2x128 .fp8e4m3) : out0_6 q k v = k0_pay1 (F := Ideal) k := by
  unfold out0_6
  rw [View.canon_unit_zero zero4, View.ld_unit_zero zero4]

/-- The block of the keys as numbers is the whole array. -/
theorem place6 (t : Fin cfg0.N) (y : S4x512x2x128.Idx) : ((cfg0.win 6).blk t).view.emb y = (y : S4x512x2x128.Idx) := by
  funext a
  apply Fin.ext
  fin_cases a <;> blk_simp [index6] <;> exact Nat.zero_add _

/-- The keys as numbers after the region. -/
theorem array6 : (dats m 0 d).arrAt 6 cfg0.N = k0_pay1 (F := Ideal) (K m d) := by
  refine (dats m 0 d).arrAt_eq_of_covers 6 (k0_pay1 (F := Ideal) (K m d)) (by decide +kernel) fun t hf y => ?_
  blk_simp
  rw [after0_6, out6, block1 m d t]
  exact (congrArg (k0_pay1 (F := Ideal) (K m d)) (place6 t y)).symm

/-- The values as numbers after the body. -/
theorem out7 (q : Vec Ideal S3x4x512x12x128 .f32) (k v : Vec Ideal S4x512x2x128 .fp8e4m3) : out0_7 q k v = k0_pay2 (F := Ideal) v := by
  unfold out0_7
  rw [View.canon_unit_zero zero4, View.ld_unit_zero zero4]

/-- The block of the values as numbers is the whole array. -/
theorem place7 (t : Fin cfg0.N) (y : S4x512x2x128.Idx) : ((cfg0.win 7).blk t).view.emb y = (y : S4x512x2x128.Idx) := by
  funext a
  apply Fin.ext
  fin_cases a <;> blk_simp [index7] <;> exact Nat.zero_add _

/-- The values as numbers after the region. -/
theorem array7 : (dats m 0 d).arrAt 7 cfg0.N = k0_pay2 (F := Ideal) (W m d) := by
  refine (dats m 0 d).arrAt_eq_of_covers 7 (k0_pay2 (F := Ideal) (W m d)) (by decide +kernel) fun t hf y => ?_
  blk_simp
  rw [after0_7, out7, block2 m d t]
  exact (congrArg (k0_pay2 (F := Ideal) (W m d)) (place7 t y)).symm

/-! ### At an index -/

/-- A row of the rotated queries. -/
theorem row (c : Fin 3) (b : Fin 4) (s : Fin 512) (h : Fin 12) :
    (fun j => Q m d (ix5 c b s h j)) = Spec.query (RefHost.inputs (RefHost.start m d)) c b s h :=
  funext fun j => RefHost.V_query m d c b s h j

/-- The codes. -/
theorem codes_at (c : Fin 3) (b : Fin 4) (s : Fin 512) (h : Fin 12) (j : Fin 128) :
    (show Vec Ideal S3x4x512x12x128 .fp8e4m3 from reg_main_v52_0 m d) (ix5 c b s h j)
      = Spec.codes (RefHost.inputs (RefHost.start m d)) c b s h j := by
  refine (congrFun (array3 m d) _).trans ((Region.codes_at (Q m d) c b s h j).trans ?_)
  rw [row, show Q m d (ix5 c b s h j) = _ from RefHost.V_query m d c b s h j]
  rfl

/-- The scales. -/
theorem scales_at (c : Fin 3) (b : Fin 4) (s : Fin 512) (h : Fin 12) :
    (show Vec Ideal S3x4x512x12x1 .f32 from reg_main_v52_1 m d) (ix5 c b s h 0)
      = Spec.scales (RefHost.inputs (RefHost.start m d)) c b s h := by
  refine (congrFun (array4 m d) _).trans ((Region.scales_at (Q m d) c b s h).trans ?_)
  rw [row]
  rfl

/-- The codes as numbers. -/
theorem numbers_at (c : Fin 3) (b : Fin 4) (s : Fin 512) (h : Fin 12) (j : Fin 128) :
    (show Vec Ideal S3x4x512x12x128 .f32 from reg_main_v52_2 m d) (ix5 c b s h j)
      = Spec.codes (RefHost.inputs (RefHost.start m d)) c b s h j := by
  refine (congrFun (array5 m d) _).trans (Eq.trans ?_ (codes_at m d c b s h j))
  exact (congrFun (array3 m d) _).symm

/-- The keys as numbers. -/
theorem keys_at (b : Fin 4) (t : Fin 512) (g : Fin 2) (j : Fin 128) :
    (show Vec Ideal S4x512x2x128 .f32 from reg_main_v52_3 m d) (ix4 b t g j) = (RefHost.inputs (RefHost.start m d)).k b t g j := by
  refine (congrFun (array6 m d) _).trans (Eq.trans ?_ (RefHost.V_keys m d b t g j))
  rfl

/-- The values as numbers. -/
theorem values_at (b : Fin 4) (t : Fin 512) (g : Fin 2) (j : Fin 128) :
    (show Vec Ideal S4x512x2x128 .bf16 from reg_main_v52_4 m d) (ix4 b t g j) = (RefHost.inputs (RefHost.start m d)).v b t g j := by
  refine (congrFun (array7 m d) _).trans (Eq.trans ?_ (RefHost.V_values m d b t g j))
  rfl

end Cert.RefRegion

end
-- ==== Proof.RefLayout.lean ====
/- The reference's changes of layout, each read at an index. -/
module

public import proofs.«01_k».proof.Proof.Gen.ReferenceIdeal.Read
public import proofs.«01_k».proof.Proof.Spec
public import Idealize.ShloMosaic.Lib.Pointwise

@[expose] public section

set_option maxRecDepth 16384

noncomputable section

namespace Cert.RefLayout

open Cert.ReferenceIdeal Cert.ReferenceIdeal.Facts Cert.ReferenceIdeal.Facts₀ Idealize.ShloMosaic

/-- The head of a place in a group of heads. -/
abbrev head (g : Fin 2) (u : Fin 6) : Fin 12 := ⟨g.val * 6 + u.val, by omega⟩

/-- The queries' codes by groups of heads. -/
theorem groups_at (v : Vec Ideal S3x4x512x12x128 .f32) (c : Fin 3) (b : Fin 4) (s : Fin 512) (g : Fin 2) (u : Fin 6) (j : Fin 128) :
    shapeCast S3x4x512x2x6x128 v shapeCasts_S3x4x512x12x128_S3x4x512x2x6x128 (ix6 c b s g u j) = v (ix5 c b s (head g u) j) := by
  pointwise

/-- The queries' scales by groups of heads. -/
theorem groupScales_at (v : Vec Ideal S3x4x512x12x1 .f32) (c : Fin 3) (b : Fin 4) (s : Fin 512) (g : Fin 2) (u : Fin 6) :
    shapeCast S3x4x512x2x6 v shapeCasts_S3x4x512x12x1_S3x4x512x2x6 (ix5 c b s g u) = v (ix5 c b s (head g u) 0) := by
  pointwise

/-- A single rotation's scores without the dimension of rotations. -/
theorem drop_at (v : Vec Ideal S1x4x2x6x512x512 .f32) (b : Fin 4) (g : Fin 2) (u : Fin 6) (s t : Fin 512) :
    shapeCast S4x2x6x512x512 v shapeCasts_S1x4x2x6x512x512_S4x2x6x512x512 (ix5 b g u s t) = v (ix6 0 b g u s t) := by
  pointwise

/-- A row's largest score. -/
theorem max_at (v : Vec Ideal S4x2x6x512x512 .f32) (b : Fin 4) (g : Fin 2) (u : Fin 6) (s : Fin 512) :
    Host.reduce FloatOps.maximumf v (constant (F := Ideal) S_ .f32 0xFF800000#32) reducesTo_S4x2x6x512x512_S4x2x6x512_d4 h_S_ (ix4 b g u s)
      = Finset.fold max (Ideal.ofBits FTy.f32 0xFF800000#32) (fun t => v (ix5 b g u s t)) Finset.univ := by
  pointwise

/-- Three masses one after another. -/
theorem join_at (u0 u1 u2 : Vec Ideal S1x4x2x6x512 .f32) (c : Fin 3) (b : Fin 4) (g : Fin 2) (u : Fin 6) (s : Fin 512) :
    concatenate S3x4x2x6x512 0 [⟨S1x4x2x6x512, u0⟩, ⟨S1x4x2x6x512, u1⟩, ⟨S1x4x2x6x512, u2⟩] concatenates_S1x4x2x6x512_S1x4x2x6x512_S1x4x2x6x512_S3x4x2x6x512_d0 (ix5 c b g u s)
      = if c.val = 0 then u0 (ix5 0 b g u s) else if c.val = 1 then u1 (ix5 0 b g u s) else u2 (ix5 0 b g u s) := by
  fin_cases c
  · pointwise
  · pointwise
  · pointwise

/-- The masses by heads. -/
theorem heads_at (v : Vec Ideal S3x4x512x2x6 .f32) (c : Fin 3) (b : Fin 4) (s : Fin 512) (h : Fin 12) :
    shapeCast S3x4x512x12 v shapeCasts_S3x4x512x2x6_S3x4x512x12 (ix4 c b s h) = v (ix5 c b s ⟨h.val / 6, by omega⟩ ⟨h.val % 6, by omega⟩) := by
  pointwise

/-- The output by columns. -/
theorem columns_at (v : Vec Ideal S4x512x2x6x128 .f32) (b : Fin 4) (s : Fin 512) (n : Fin 1536) :
    shapeCast S4x512x1536 v shapeCasts_S4x512x2x6x128_S4x512x1536 (ix3 b s n)
      = v (ix5 b s ⟨n.val / 768, by omega⟩ ⟨n.val / 128 % 6, by omega⟩ ⟨n.val % 128, by omega⟩) := by
  pointwise

/-- The codes by columns. -/
theorem codeColumns_at (v : Vec Ideal S3x4x512x12x128 .fp8e4m3) (c : Fin 3) (b : Fin 4) (s : Fin 512) (n : Fin 1536) :
    shapeCast S3x4x512x1536 v shapeCasts_S3x4x512x12x128_S3x4x512x1536 (ix4 c b s n)
      = v (ix5 c b s ⟨n.val / 128, by omega⟩ ⟨n.val % 128, by omega⟩) := by
  pointwise

/-- The scales by heads. -/
theorem scaleHeads_at (v : Vec Ideal S3x4x512x12x1 .f32) (c : Fin 3) (b : Fin 4) (s : Fin 512) (h : Fin 12) :
    shapeCast S3x4x512x12 v shapeCasts_S3x4x512x12x1_S3x4x512x12 (ix4 c b s h) = v (ix5 c b s h 0) := by
  pointwise

end Cert.RefLayout

end
-- ==== Proof.RefScores.lean ====
/- What the reference computes after its region up to the attention weights, at an index, from what the arrays it reads
   hold: the distances, the visibility, the masked scores and their softmax are the specification's. -/
module

public import proofs.«01_k».proof.Proof.RefLayout

@[expose] public section

set_option maxRecDepth 16384

noncomputable section

namespace Cert.RefScores

open Cert.ReferenceIdeal Cert.ReferenceIdeal.Facts Cert.ReferenceIdeal.Facts₀ Cert.ReferenceIdeal.Read Cert.RefLayout Idealize.ShloMosaic

/-- The arrays the operations after the region read hold the inputs, and the codes and scales of the queries. -/
structure Holds (I : Spec.Inputs) (x1 : Vec Ideal S4x512 .i32) (x3 x5 : Vec Ideal S4x512x2 .f32) (r1 : Vec Ideal S3x4x512x12x1 .f32)
    (r2 : Vec Ideal S3x4x512x12x128 .f32) (r3 : Vec Ideal S4x512x2x128 .f32) (r4 : Vec Ideal S4x512x2x128 .bf16) : Prop where
  doc : ∀ b s, x1 (ix2 b s) = I.doc b s
  ks : ∀ b t g, x3 (ix3 b t g) = I.ks b t g
  vs : ∀ b t g, x5 (ix3 b t g) = I.vs b t g
  scales : ∀ c b s h, r1 (ix5 c b s h 0) = Spec.scales I c b s h
  codes : ∀ c b s h j, r2 (ix5 c b s h j) = Spec.codes I c b s h j
  keys : ∀ b t g j, r3 (ix4 b t g j) = I.k b t g j
  values : ∀ b t g j, r4 (ix4 b t g j) = I.v b t g j

variable {I : Spec.Inputs} {x1 : Vec Ideal S4x512 .i32} {x3 x5 : Vec Ideal S4x512x2 .f32} {r1 : Vec Ideal S3x4x512x12x1 .f32}
  {r2 : Vec Ideal S3x4x512x12x128 .f32} {r3 : Vec Ideal S4x512x2x128 .f32} {r4 : Vec Ideal S4x512x2x128 .bf16}
  (H : Holds I x1 x3 x5 r1 r2 r3 r4)

include H

/-! ### Distances and visibility -/

/-- The chunk of a position. -/
theorem chunk_at (b : Fin 4) (s : Fin 512) : val_main_v57 (F := Ideal) x1 (ix2 b s) = Spec.quotient (Spec.rel I b s) := by
  have e : val_main_v57 (F := Ideal) x1 (ix2 b s) = Spec.quotient (val_main_v56 (F := Ideal) x1 (ix2 b s)) := rfl
  rw [e]
  refine congrArg Spec.quotient ?_
  exact congrArg (IntOp.subi (BitVec.ofNat 32 s.val)) (H.doc b s)

/-- The number of chunks between a query and a key. -/
theorem dist_at (b : Fin 4) (s t : Fin 512) : val_main_v62 (F := Ideal) x1 (ix5 b 0 0 s t) = Spec.dist I b s t := by
  have e0 : val_main_v60 (F := Ideal) x1 (ix5 b 0 0 s t) = val_main_v57 (F := Ideal) x1 (ix2 b s) :=
    (val_main_v60_apply x1 _).trans ((val_main_v58_apply x1 _).trans (congrArg (val_main_v57 (F := Ideal) x1) (eq_ix2 _)))
  have e1 : val_main_v61 (F := Ideal) x1 (ix5 b 0 0 s t) = val_main_v57 (F := Ideal) x1 (ix2 b t) :=
    (val_main_v61_apply x1 _).trans ((val_main_v59_apply x1 _).trans (congrArg (val_main_v57 (F := Ideal) x1) (eq_ix2 _)))
  rw [val_main_v62_apply, e0, e1, chunk_at H, chunk_at H]
  rfl

/-- Whether a query sees a key. -/
theorem visible_at (b : Fin 4) (s t : Fin 512) : val_main_v75 (F := Ideal) x1 (ix5 b 0 0 s t) = Spec.visible I b s t := by
  have e0 : val_main_v74 (F := Ideal) (ix5 b 0 0 s t) = val_main_v67 (F := Ideal) (ix2 s t) :=
    (val_main_v74_apply _).trans ((val_main_v73_apply _).trans (congrArg (val_main_v67 (F := Ideal)) (eq_ix2 _)))
  have e1 : val_main_v70 (F := Ideal) x1 (ix5 b 0 0 s t) = x1 (ix2 b s) :=
    (val_main_v70_apply x1 _).trans ((val_main_v68_apply x1 _).trans (congrArg x1 (eq_ix2 _)))
  have e2 : val_main_v71 (F := Ideal) x1 (ix5 b 0 0 s t) = x1 (ix2 b t) :=
    (val_main_v71_apply x1 _).trans ((val_main_v69_apply x1 _).trans (congrArg x1 (eq_ix2 _)))
  rw [val_main_v75_apply, val_main_v72_apply, e0, e1, e2, H.doc, H.doc]
  rfl

/-! ### Scores -/

/-- The product of a query's codes with a key's codes. -/
theorem product_at (c : Fin 3) (b : Fin 4) (g : Fin 2) (u : Fin 6) (s t : Fin 512) :
    val_main_v78 (F := Ideal) r2 r3 (ix6 c b g u s t) = ∑ j, Spec.codes I c b s (head g u) j * I.k b t g j := by
  have e : val_main_v78 (F := Ideal) r2 r3 (ix6 c b g u s t) = val_main_v77 (F := Ideal) r2 r3 (ix6 b g t c s u) :=
    (val_main_v78_apply r2 r3 _).trans (congrArg (val_main_v77 (F := Ideal) r2 r3) (eq_ix6 _))
  rw [e, val_main_v77_apply]
  refine Finset.sum_congr rfl fun j _ => ?_
  have e3 : r3 (lidx_main_v77 (ix6 b g t c s u) j) = I.k b t g j := (congrArg r3 (eq_ix4 _)).trans (H.keys b t g j)
  have e2 : val_main_v76 (F := Ideal) r2 (ridx_main_v77 (ix6 b g t c s u) j) = Spec.codes I c b s (head g u) j :=
    (congrArg (val_main_v76 (F := Ideal) r2) (eq_ix6 _)).trans ((groups_at r2 c b s g u j).trans (H.codes c b s (head g u) j))
  rw [e3, e2]
  exact mul_comm _ _

/-- The scale of a query. -/
theorem scale_at (c : Fin 3) (b : Fin 4) (g : Fin 2) (u : Fin 6) (s t : Fin 512) :
    val_main_v82 (F := Ideal) r1 (ix6 c b g u s t) = Spec.scales I c b s (head g u) := by
  have e0 : val_main_v82 (F := Ideal) r1 (ix6 c b g u s t) = val_main_v80 (F := Ideal) r1 (ix5 c b g u s) :=
    (val_main_v82_apply r1 _).trans ((val_main_v81_apply r1 _).trans (congrArg (val_main_v80 (F := Ideal) r1) (eq_ix5 _)))
  have e1 : val_main_v80 (F := Ideal) r1 (ix5 c b g u s) = val_main_v79 (F := Ideal) r1 (ix5 c b s g u) :=
    (val_main_v80_apply r1 _).trans (congrArg (val_main_v79 (F := Ideal) r1) (eq_ix5 _))
  rw [e0, e1]
  exact (groupScales_at r1 c b s g u).trans (H.scales c b s (head g u))

/-- The scale of a key, times the softmax's scale. -/
theorem keyScale_at (c : Fin 3) (b : Fin 4) (g : Fin 2) (u : Fin 6) (s t : Fin 512) :
    val_main_v88 (F := Ideal) x3 (ix6 c b g u s t) = (I.ks b t g * Ideal.ofBits FTy.f32 0x3DB504F3#32 : EReal) := by
  have e0 : val_main_v88 (F := Ideal) x3 (ix6 c b g u s t) = val_main_v86 (F := Ideal) x3 (ix3 b g t) :=
    (val_main_v88_apply x3 _).trans ((val_main_v87_apply x3 _).trans (congrArg (val_main_v86 (F := Ideal) x3) (eq_ix3 _)))
  have e1 : val_main_v84 (F := Ideal) x3 (ix3 b g t) = I.ks b t g :=
    (val_main_v84_apply x3 _).trans ((congrArg x3 (eq_ix3 _)).trans (H.ks b t g))
  rw [e0, val_main_v86_apply, e1]
  rfl

/-- The score of a query against a key. -/
theorem score_at (c : Fin 3) (b : Fin 4) (g : Fin 2) (u : Fin 6) (s t : Fin 512) :
    val_main_v89 (F := Ideal) x3 r1 r2 r3 (ix6 c b g u s t)
      = (Spec.score (Spec.query I c b s (head g u)) (I.k b t g) * (I.ks b t g * Ideal.ofBits FTy.f32 0x3DB504F3#32) : EReal) := by
  rw [val_main_v89_apply, val_main_v83_apply, product_at H, scale_at H, keyScale_at H]
  rfl

/-- The score under the first rotation. -/
theorem score0_at (b : Fin 4) (g : Fin 2) (u : Fin 6) (s t : Fin 512) :
    val_main_v93 (F := Ideal) x3 r1 r2 r3 (ix5 b g u s t)
      = (Spec.score (Spec.query I 0 b s (head g u)) (I.k b t g) * (I.ks b t g * Ideal.ofBits FTy.f32 0x3DB504F3#32) : EReal) :=
  (drop_at (val_main_v92 (F := Ideal) x3 r1 r2 r3) b g u s t).trans ((val_main_v92_apply x3 r1 r2 r3 _).trans
    ((congrArg (val_main_v89 (F := Ideal) x3 r1 r2 r3) (eq_ix6 _)).trans (score_at H 0 b g u s t)))

/-- The score under the second rotation. -/
theorem score1_at (b : Fin 4) (g : Fin 2) (u : Fin 6) (s t : Fin 512) :
    val_main_v97 (F := Ideal) x3 r1 r2 r3 (ix5 b g u s t)
      = (Spec.score (Spec.query I 1 b s (head g u)) (I.k b t g) * (I.ks b t g * Ideal.ofBits FTy.f32 0x3DB504F3#32) : EReal) :=
  (drop_at (val_main_v96 (F := Ideal) x3 r1 r2 r3) b g u s t).trans ((val_main_v96_apply x3 r1 r2 r3 _).trans
    ((congrArg (val_main_v89 (F := Ideal) x3 r1 r2 r3) (eq_ix6 _)).trans (score_at H 1 b g u s t)))

/-- The score under the third rotation. -/
theorem score2_at (b : Fin 4) (g : Fin 2) (u : Fin 6) (s t : Fin 512) :
    val_main_v99 (F := Ideal) x3 r1 r2 r3 (ix5 b g u s t)
      = (Spec.score (Spec.query I 2 b s (head g u)) (I.k b t g) * (I.ks b t g * Ideal.ofBits FTy.f32 0x3DB504F3#32) : EReal) :=
  (drop_at (val_main_v98 (F := Ideal) x3 r1 r2 r3) b g u s t).trans ((val_main_v98_apply x3 r1 r2 r3 _).trans
    ((congrArg (val_main_v89 (F := Ideal) x3 r1 r2 r3) (eq_ix6 _)).trans (score_at H 2 b g u s t)))

/-- Whether query and key are of the same chunk. -/
theorem same_at (b : Fin 4) (g : Fin 2) (u : Fin 6) (s t : Fin 512) :
    val_main_call3_v0 (F := Ideal) x1 (ix5 b g u s t) = IntOp.cmpi .eq (Spec.dist I b s t) 0#32 := by
  have e : val_main_call3_v0 (F := Ideal) x1 (ix5 b g u s t) = val_main_v91 (F := Ideal) x1 (ix5 b 0 0 s t) :=
    (val_main_call3_v0_apply x1 _).trans (congrArg (val_main_v91 (F := Ideal) x1) (eq_ix5 _))
  rw [e, val_main_v91_apply, dist_at H]
  rfl

/-- Whether query and key are one chunk apart. -/
theorem next_at (b : Fin 4) (g : Fin 2) (u : Fin 6) (s t : Fin 512) :
    val_main_call2_v0 (F := Ideal) x1 (ix5 b g u s t) = IntOp.cmpi .eq (Spec.dist I b s t) 1#32 := by
  have e : val_main_call2_v0 (F := Ideal) x1 (ix5 b g u s t) = val_main_v95 (F := Ideal) x1 (ix5 b 0 0 s t) :=
    (val_main_call2_v0_apply x1 _).trans (congrArg (val_main_v95 (F := Ideal) x1) (eq_ix5 _))
  rw [e, val_main_v95_apply, dist_at H]
  rfl

/-- Whether the query sees the key. -/
theorem mask_at (b : Fin 4) (g : Fin 2) (u : Fin 6) (s t : Fin 512) :
    val_main_call4_v1 (F := Ideal) x1 (ix5 b g u s t) = Spec.visible I b s t :=
  (val_main_call4_v1_apply x1 _).trans ((congrArg (val_main_v75 (F := Ideal) x1) (eq_ix5 _)).trans (visible_at H b s t))

omit H in
/-- The key-value head of a group's heads. -/
theorem kv_head (g : Fin 2) (u : Fin 6) : Spec.kv (head g u) = g := Fin.ext (by show (g.val * 6 + u.val) / 6 = g.val; omega)

omit H in
/-- A product commutes with a choice. -/
theorem select_mul (p : BitVec 1) (x y z : EReal) : Scalar.select p (x * z) (y * z) = Scalar.select p x y * z := by
  unfold Scalar.select
  split <;> rfl

/-- The masked score of a query against a key. -/
theorem masked_at (b : Fin 4) (g : Fin 2) (u : Fin 6) (s t : Fin 512) :
    val_main_v102 (F := Ideal) x1 x3 r1 r2 r3 (ix5 b g u s t) = Spec.masked I b s (head g u) t := by
  rw [val_main_v102_apply, val_main_v101_apply, val_main_v100_apply, mask_at H, same_at H, next_at H, score0_at H, score1_at H, score2_at H,
    select_mul, select_mul, Spec.masked, kv_head]
  rfl

/-! ### The softmax -/

/-- The largest of a row's scores. -/
theorem largest_at (b : Fin 4) (g : Fin 2) (u : Fin 6) (s : Fin 512) :
    val_main_v105 (F := Ideal) x1 x3 r1 r2 r3 (ix4 b g u s)
      = Finset.fold max (Ideal.ofBits FTy.f32 0xFF800000#32) (Spec.masked I b s (head g u)) Finset.univ := by
  have e : val_main_v103 (F := Ideal) x1 x3 r1 r2 r3 (ix4 b g u s)
      = Finset.fold max (Ideal.ofBits FTy.f32 0xFF800000#32) (Spec.masked I b s (head g u)) Finset.univ :=
    (max_at (val_main_v102 (F := Ideal) x1 x3 r1 r2 r3) b g u s).trans
      (congrArg (fun f => Finset.fold max (Ideal.ofBits FTy.f32 0xFF800000#32) f Finset.univ) (funext fun t => masked_at H b g u s t))
  rw [val_main_v105_apply, e]
  exact max_eq_right ((Finset.le_fold_max _).2 (Or.inl le_rfl))

/-- The exponential of a score less the largest. -/
theorem expd_at (b : Fin 4) (g : Fin 2) (u : Fin 6) (s t : Fin 512) :
    val_main_v109 (F := Ideal) x1 x3 r1 r2 r3 (ix5 b g u s t) = Spec.expd (Spec.masked I b s (head g u)) t := by
  have e : val_main_v107 (F := Ideal) x1 x3 r1 r2 r3 (ix5 b g u s t) = val_main_v105 (F := Ideal) x1 x3 r1 r2 r3 (ix4 b g u s) :=
    (val_main_v107_apply x1 x3 r1 r2 r3 _).trans ((val_main_v106_apply x1 x3 r1 r2 r3 _).trans
      (congrArg (val_main_v105 (F := Ideal) x1 x3 r1 r2 r3) (eq_ix4 _)))
  rw [val_main_v109_apply, val_main_v108_apply, e, largest_at H, masked_at H]
  rfl

/-- The sum of a row's exponentials. -/
theorem total_at (b : Fin 4) (g : Fin 2) (u : Fin 6) (s : Fin 512) :
    val_main_v110 (F := Ideal) x1 x3 r1 r2 r3 (ix4 b g u s) = ∑ t, Spec.expd (Spec.masked I b s (head g u)) t := by
  rw [val_main_v110_apply]
  refine Eq.trans (congrArg₂ (fun x y : EReal => x + y) (show _ = (0 : EReal) from Ideal.ofBits_zero_f32) (Finset.sum_congr rfl fun t _ => ?_)) (zero_add _)
  exact (congrArg (val_main_v109 (F := Ideal) x1 x3 r1 r2 r3) (eq_ix5 _)).trans (expd_at H b g u s t)

/-- The attention weight of a query on a key. -/
theorem weights_at (b : Fin 4) (g : Fin 2) (u : Fin 6) (s t : Fin 512) :
    val_main_v113 (F := Ideal) x1 x3 r1 r2 r3 (ix5 b g u s t) = Spec.weights I b s (head g u) t := by
  have e : val_main_v112 (F := Ideal) x1 x3 r1 r2 r3 (ix5 b g u s t) = val_main_v110 (F := Ideal) x1 x3 r1 r2 r3 (ix4 b g u s) :=
    (val_main_v112_apply x1 x3 r1 r2 r3 _).trans ((val_main_v111_apply x1 x3 r1 r2 r3 _).trans
      (congrArg (val_main_v110 (F := Ideal) x1 x3 r1 r2 r3) (eq_ix4 _)))
  rw [val_main_v113_apply, e, total_at H, expd_at H]
  rfl

end Cert.RefScores

end
-- ==== Proof.RefResults.lean ====
/- What the reference computes after its attention weights, at an index, from what the arrays it reads hold: the output,
   the masses, the codes and the scales are the specification's. -/
module

public import proofs.«01_k».proof.Proof.RefScores
public import proofs.«01_k».proof.Proof.BlockValue

@[expose] public section

set_option maxRecDepth 16384

noncomputable section

namespace Cert.RefResults

open Cert.ReferenceIdeal Cert.ReferenceIdeal.Facts Cert.ReferenceIdeal.Facts₀ Cert.ReferenceIdeal.Read Cert.RefLayout Cert.RefScores Idealize.ShloMosaic

variable {I : Spec.Inputs} {x1 : Vec Ideal S4x512 .i32} {x3 x5 : Vec Ideal S4x512x2 .f32} {r1 : Vec Ideal S3x4x512x12x1 .f32}
  {r2 : Vec Ideal S3x4x512x12x128 .f32} {r3 : Vec Ideal S4x512x2x128 .f32} {r4 : Vec Ideal S4x512x2x128 .bf16}
  (H : Holds I x1 x3 x5 r1 r2 r3 r4)

include H

/-! ### The masses -/

/-- The mass on the query's own chunk. -/
theorem mass0_at (b : Fin 4) (g : Fin 2) (u : Fin 6) (s : Fin 512) :
    val_main_v117 (F := Ideal) x1 x3 r1 r2 r3 (ix4 b g u s) = Spec.mass I 0 b s (head g u) := by
  rw [val_main_v117_apply]
  refine Eq.trans (congrArg₂ (fun x y : EReal => x + y) (show _ = (0 : EReal) from Ideal.ofBits_zero_f32) (Finset.sum_congr rfl fun t _ => ?_)) (zero_add _)
  refine (congrArg (val_main_v116 (F := Ideal) x1 x3 r1 r2 r3) (eq_ix5 _)).trans ?_
  have e : val_main_call5_v1 (F := Ideal) x1 (ix5 b g u s t) = val_main_v115 (F := Ideal) x1 (ix5 b 0 0 s t) :=
    (val_main_call5_v1_apply x1 _).trans (congrArg (val_main_v115 (F := Ideal) x1) (eq_ix5 _))
  refine (val_main_v116_apply x1 x3 r1 r2 r3 (ix5 b g u s t)).trans ?_
  rw [e, val_main_v115_apply, dist_at H, weights_at H]
  exact congrArg (Scalar.select _ _) Ideal.ofBits_zero_f32

/-- The mass on the chunk before the query's. -/
theorem mass1_at (b : Fin 4) (g : Fin 2) (u : Fin 6) (s : Fin 512) :
    val_main_v121 (F := Ideal) x1 x3 r1 r2 r3 (ix4 b g u s) = Spec.mass I 1 b s (head g u) := by
  rw [val_main_v121_apply]
  refine Eq.trans (congrArg₂ (fun x y : EReal => x + y) (show _ = (0 : EReal) from Ideal.ofBits_zero_f32) (Finset.sum_congr rfl fun t _ => ?_)) (zero_add _)
  refine (congrArg (val_main_v120 (F := Ideal) x1 x3 r1 r2 r3) (eq_ix5 _)).trans ?_
  have e : val_main_call6_v1 (F := Ideal) x1 (ix5 b g u s t) = val_main_v119 (F := Ideal) x1 (ix5 b 0 0 s t) :=
    (val_main_call6_v1_apply x1 _).trans (congrArg (val_main_v119 (F := Ideal) x1) (eq_ix5 _))
  refine (val_main_v120_apply x1 x3 r1 r2 r3 (ix5 b g u s t)).trans ?_
  rw [e, val_main_v119_apply, dist_at H, weights_at H]
  exact congrArg (Scalar.select _ _) Ideal.ofBits_zero_f32

/-- The mass on all earlier chunks. -/
theorem mass2_at (b : Fin 4) (g : Fin 2) (u : Fin 6) (s : Fin 512) :
    val_main_v125 (F := Ideal) x1 x3 r1 r2 r3 (ix4 b g u s) = Spec.mass I 2 b s (head g u) := by
  rw [val_main_v125_apply]
  refine Eq.trans (congrArg₂ (fun x y : EReal => x + y) (show _ = (0 : EReal) from Ideal.ofBits_zero_f32) (Finset.sum_congr rfl fun t _ => ?_)) (zero_add _)
  refine (congrArg (val_main_v124 (F := Ideal) x1 x3 r1 r2 r3) (eq_ix5 _)).trans ?_
  have e : val_main_call7_v1 (F := Ideal) x1 (ix5 b g u s t) = val_main_v123 (F := Ideal) x1 (ix5 b 0 0 s t) :=
    (val_main_call7_v1_apply x1 _).trans (congrArg (val_main_v123 (F := Ideal) x1) (eq_ix5 _))
  refine (val_main_v124_apply x1 x3 r1 r2 r3 (ix5 b g u s t)).trans ?_
  rw [e, val_main_v123_apply, dist_at H, weights_at H]
  exact congrArg (Scalar.select _ _) Ideal.ofBits_zero_f32

/-- The masses by groups of heads. -/
theorem masses_at (c : Fin 3) (b : Fin 4) (g : Fin 2) (u : Fin 6) (s : Fin 512) :
    val_main_v129 (F := Ideal) x1 x3 r1 r2 r3 (ix5 c b g u s) = Spec.mass I c b s (head g u) := by
  have e0 : val_main_v126 (F := Ideal) x1 x3 r1 r2 r3 (ix5 0 b g u s) = Spec.mass I 0 b s (head g u) :=
    (val_main_v126_apply x1 x3 r1 r2 r3 _).trans ((congrArg (val_main_v117 (F := Ideal) x1 x3 r1 r2 r3) (eq_ix4 _)).trans (mass0_at H b g u s))
  have e1 : val_main_v127 (F := Ideal) x1 x3 r1 r2 r3 (ix5 0 b g u s) = Spec.mass I 1 b s (head g u) :=
    (val_main_v127_apply x1 x3 r1 r2 r3 _).trans ((congrArg (val_main_v121 (F := Ideal) x1 x3 r1 r2 r3) (eq_ix4 _)).trans (mass1_at H b g u s))
  have e2 : val_main_v128 (F := Ideal) x1 x3 r1 r2 r3 (ix5 0 b g u s) = Spec.mass I 2 b s (head g u) :=
    (val_main_v128_apply x1 x3 r1 r2 r3 _).trans ((congrArg (val_main_v125 (F := Ideal) x1 x3 r1 r2 r3) (eq_ix4 _)).trans (mass2_at H b g u s))
  refine (join_at (val_main_v126 (F := Ideal) x1 x3 r1 r2 r3) (val_main_v127 (F := Ideal) x1 x3 r1 r2 r3) (val_main_v128 (F := Ideal) x1 x3 r1 r2 r3) c b g u s).trans ?_
  rw [e0, e1, e2]
  fin_cases c <;> rfl

omit H in
/-- A head is its place in its group. -/
theorem head_split (h : Fin 12) : head ⟨h.val / 6, by omega⟩ ⟨h.val % 6, by omega⟩ = h := Fin.ext (by show h.val / 6 * 6 + h.val % 6 = h.val; omega)

/-- The masses by heads. -/
theorem mass_at (c : Fin 3) (b : Fin 4) (s : Fin 512) (h : Fin 12) :
    val_main_v131 (F := Ideal) x1 x3 r1 r2 r3 (ix4 c b s h) = Spec.mass I c b s h := by
  refine (heads_at (val_main_v130 (F := Ideal) x1 x3 r1 r2 r3) c b s h).trans ((val_main_v130_apply x1 x3 r1 r2 r3 _).trans
    ((congrArg (val_main_v129 (F := Ideal) x1 x3 r1 r2 r3) (eq_ix5 _)).trans ((masses_at H c b ⟨h.val / 6, by omega⟩ ⟨h.val % 6, by omega⟩ s).trans ?_)))
  rw [head_split]

/-! ### The output -/

/-- A weight times its value's scale. -/
theorem scaled_at (b : Fin 4) (g : Fin 2) (u : Fin 6) (s t : Fin 512) :
    val_main_v136 (F := Ideal) x1 x3 x5 r1 r2 r3 (ix5 b g u s t) = (Spec.weights I b s (head g u) t * I.vs b t g : EReal) := by
  have e0 : val_main_v134 (F := Ideal) x5 (ix5 b g u s t) = val_main_v132 (F := Ideal) x5 (ix3 b g t) :=
    (val_main_v134_apply x5 _).trans ((val_main_v133_apply x5 _).trans (congrArg (val_main_v132 (F := Ideal) x5) (eq_ix3 _)))
  have e1 : val_main_v132 (F := Ideal) x5 (ix3 b g t) = I.vs b t g :=
    (val_main_v132_apply x5 _).trans ((congrArg x5 (eq_ix3 _)).trans (H.vs b t g))
  rw [val_main_v136_apply, val_main_v135_apply, weights_at H, e0, e1]
  rfl

/-- The output by groups of heads. -/
theorem outs_at (b : Fin 4) (g : Fin 2) (u : Fin 6) (s : Fin 512) (l : Fin 128) :
    val_main_v138 (F := Ideal) x1 x3 x5 r1 r2 r3 r4 (ix5 b s g u l) = Spec.out I b s (head g u) l := by
  have e : val_main_v138 (F := Ideal) x1 x3 x5 r1 r2 r3 r4 (ix5 b s g u l) = val_main_v137 (F := Ideal) x1 x3 x5 r1 r2 r3 r4 (ix5 b g l u s) :=
    (val_main_v138_apply x1 x3 x5 r1 r2 r3 r4 _).trans (congrArg (val_main_v137 (F := Ideal) x1 x3 x5 r1 r2 r3 r4) (eq_ix5 _))
  rw [e, val_main_v137_apply, Spec.out, kv_head]
  refine Finset.sum_congr rfl fun t _ => ?_
  have e4 : r4 (lidx_main_v137 (ix5 b g l u s) t) = I.v b t g l := (congrArg r4 (eq_ix4 _)).trans (H.values b t g l)
  have e5 : val_main_v136 (F := Ideal) x1 x3 x5 r1 r2 r3 (ridx_main_v137 (ix5 b g l u s) t) = (Spec.weights I b s (head g u) t * I.vs b t g : EReal) :=
    (congrArg (val_main_v136 (F := Ideal) x1 x3 x5 r1 r2 r3) (eq_ix5 _)).trans (scaled_at H b g u s t)
  rw [e4, e5]
  exact mul_comm _ _

omit H in
/-- The head of a column of the output. -/
theorem head_column (n : Fin 1536) : head ⟨n.val / 768, by omega⟩ ⟨n.val / 128 % 6, by omega⟩ = Block.headOf n :=
  Fin.ext (by show n.val / 768 * 6 + n.val / 128 % 6 = n.val / 128; omega)

/-- The output by columns. -/
theorem out_at (b : Fin 4) (s : Fin 512) (n : Fin 1536) :
    val_main_v140 (F := Ideal) x1 x3 x5 r1 r2 r3 r4 (ix3 b s n) = Spec.out I b s (Block.headOf n) (Block.laneOf n) := by
  rw [val_main_v140_apply]
  refine (columns_at (val_main_v138 (F := Ideal) x1 x3 x5 r1 r2 r3 r4) b s n).trans ((outs_at H b ⟨n.val / 768, by omega⟩ ⟨n.val / 128 % 6, by omega⟩ s ⟨n.val % 128, by omega⟩).trans ?_)
  rw [head_column]

end Cert.RefResults

end
-- ==== Proof.RefArrays.lean ====
/- What the reference's four results hold after the run: the arrays of the specification. -/
module

public import proofs.«01_k».proof.Proof.RefRegion
public import proofs.«01_k».proof.Proof.RefResults
public import proofs.«01_k».proof.Proof.Arrays

@[expose] public section

set_option maxRecDepth 16384

noncomputable section

namespace Cert.RefArrays

open Cert.ReferenceIdeal Cert.ReferenceIdeal.Read Cert.RefScores Idealize.ShloMosaic Idealize.ShloMosaic.TcCoe Idealize.SL.Sem
open Cert.ReferenceIdeal.Value (exitV exit_main_arg1 exit_main_arg3 exit_main_arg5 exit_main_v52_0 exit_main_v52_1 exit_main_v52_2 exit_main_v52_3 exit_main_v52_4)

variable (m : (ℓ : Loc nD τ sig) → Buf (Elt Ideal) ℓ) (d : Dev nD)

/-- The inputs of a device. -/
abbrev ins : Spec.Inputs := RefHost.inputs (RefHost.start m d)

/-- What the arrays the operations after the region read hold. -/
theorem holds : Holds (ins m d) (exitV m d (Proc.devRef .tc main_arg1)) (exitV m d (Proc.devRef .tc main_arg3)) (exitV m d (Proc.devRef .tc main_arg5))
    (exitV m d (Proc.devRef .tc main_v52_1)) (exitV m d (Proc.devRef .tc main_v52_2)) (exitV m d (Proc.devRef .tc main_v52_3)) (exitV m d (Proc.devRef .tc main_v52_4)) := by
  rw [exit_main_arg1, exit_main_arg3, exit_main_arg5, exit_main_v52_1, exit_main_v52_2, exit_main_v52_3, exit_main_v52_4]
  exact ⟨fun _ _ => rfl, fun _ _ _ => rfl, fun _ _ _ => rfl, RefRegion.scales_at m d, RefRegion.numbers_at m d, RefRegion.keys_at m d, RefRegion.values_at m d⟩

/-- The output after the run. -/
theorem out_array : val_main_v140 (F := Ideal) (exitV m d (Proc.devRef .tc main_arg1)) (exitV m d (Proc.devRef .tc main_arg3)) (exitV m d (Proc.devRef .tc main_arg5))
    (exitV m d (Proc.devRef .tc main_v52_1)) (exitV m d (Proc.devRef .tc main_v52_2)) (exitV m d (Proc.devRef .tc main_v52_3)) (exitV m d (Proc.devRef .tc main_v52_4))
      = KernelArrays.outArray (ins m d) := by
  funext y
  refine (congrArg _ (eq_ix3 y)).trans ((RefResults.out_at (holds m d) (y 0) (y 1) (y 2)).trans ?_)
  rfl

/-- The masses after the run. -/
theorem mass_array : val_main_v131 (F := Ideal) (exitV m d (Proc.devRef .tc main_arg1)) (exitV m d (Proc.devRef .tc main_arg3))
    (exitV m d (Proc.devRef .tc main_v52_1)) (exitV m d (Proc.devRef .tc main_v52_2)) (exitV m d (Proc.devRef .tc main_v52_3))
      = KernelArrays.massArray (ins m d) := by
  funext y
  refine (congrArg _ (eq_ix4 y)).trans ((RefResults.mass_at (holds m d) (y 0) (y 1) (y 2) (y 3)).trans ?_)
  rfl

/-- The codes after the run. -/
theorem codes_array : val_main_v141 (F := Ideal) (exitV m d (Proc.devRef .tc main_v52_0)) = KernelArrays.codesArray (ins m d) := by
  rw [exit_main_v52_0]
  funext y
  refine (congrArg _ (eq_ix4 y)).trans ((RefLayout.codeColumns_at _ (y 0) (y 1) (y 2) (y 3)).trans
    ((RefRegion.codes_at m d (y 0) (y 1) (y 2) (Block.headOf (y 3)) (Block.laneOf (y 3))).trans ?_))
  rfl

/-- The scales after the run. -/
theorem scales_array : val_main_v142 (F := Ideal) (exitV m d (Proc.devRef .tc main_v52_1)) = KernelArrays.scalesArray (ins m d) := by
  rw [exit_main_v52_1]
  funext y
  refine (congrArg _ (eq_ix4 y)).trans ((RefLayout.scaleHeads_at _ (y 0) (y 1) (y 2) (y 3)).trans
    ((RefRegion.scales_at m d (y 0) (y 1) (y 2) (y 3)).trans ?_))
  rfl

end Cert.RefArrays

end
-- ==== Proof.Equation.lean ====
/- The equation: from equal inputs the kernel and the reference both leave the arrays of the specification. -/
module

public import proofs.«01_k».proof.Defs
public import proofs.«01_k».proof.Proof.Finite
public import proofs.«01_k».proof.Proof.Arrays
public import proofs.«01_k».proof.Proof.RefArrays

@[expose] public section

set_option maxRecDepth 16384

noncomputable section

namespace Cert.Equation

open Idealize.ShloMosaic Idealize.SL.Sem

/-- Inputs are equal when their six parts are. -/
theorem inputs_ext (I J : Spec.Inputs) (h0 : I.x = J.x) (h1 : I.doc = J.doc) (h2 : I.k = J.k) (h3 : I.ks = J.ks) (h4 : I.v = J.v) (h5 : I.vs = J.vs) :
    I = J := by
  cases I
  cases J
  cases h0
  cases h1
  cases h2
  cases h3
  cases h4
  cases h5
  rfl

/-- Memories that agree on the arguments hold the same inputs. -/
theorem inputs_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (h : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) :
    RefHost.inputs (RefHost.start m' c) = KernelHost.inputs (KernelHost.start m c) :=
  inputs_ext _ _ (funext fun b => funext fun s => funext fun j => congrFun h.1 (ix3 b s j))
    (funext fun b => funext fun s => congrFun h.2.1 (ix2 b s))
    (funext fun b => funext fun t => funext fun g => funext fun j => congrFun h.2.2.1 (ix4 b t g j))
    (funext fun b => funext fun t => funext fun g => congrFun h.2.2.2.1 (ix3 b t g))
    (funext fun b => funext fun t => funext fun g => funext fun j => congrFun h.2.2.2.2.1 (ix4 b t g j))
    (funext fun b => funext fun t => funext fun g => congrFun h.2.2.2.2.2 (ix3 b t g))

/-- The kernel leaves the arrays of the specification and its arguments alone. -/
theorem kernel_run (m : (ℓ : Loc Cert.KernelIdeal.nD Cert.KernelIdeal.τ Cert.KernelIdeal.sig) → Buf (Elt Ideal) ℓ) (g : Dev Cert.KernelIdeal.nD → PrngReg)
    (S : ∀ c, Block.Small (KernelArrays.ins m c)) :
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_v44_0) = KernelArrays.outArray (KernelArrays.ins m c)
      ∧ r.2.mem ((c.tc : Thread Cert.KernelIdeal.nD Cert.KernelIdeal.τ).loc Cert.KernelIdeal.main_v44_1) = KernelArrays.massArray (KernelArrays.ins m c)
      ∧ r.2.mem ((c.tc : Thread Cert.KernelIdeal.nD Cert.KernelIdeal.τ).loc Cert.KernelIdeal.main_v44_2) = KernelArrays.codesArray (KernelArrays.ins m c)
      ∧ r.2.mem ((c.tc : Thread Cert.KernelIdeal.nD Cert.KernelIdeal.τ).loc Cert.KernelIdeal.main_v44_3) = KernelArrays.scalesArray (KernelArrays.ins m c)
      ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)) :=
  (θ_run _ _ _).mono (fun r h c => ⟨(h c).1.trans (KernelArrays.out_array m c (S c)), (h c).2.1.trans (KernelArrays.mass_array m c (S c)),
    (h c).2.2.1.trans (KernelArrays.codes_array m c (S c)), (h c).2.2.2.1.trans (KernelArrays.scales_array m c (S c)), (h c).2.2.2.2⟩)
    (Cert.KernelIdeal.Value.run_blocks m g)

/-- The reference leaves the arrays of the specification and its arguments alone. -/
theorem reference_run (m : (ℓ : Loc Cert.ReferenceIdeal.nD Cert.ReferenceIdeal.τ Cert.ReferenceIdeal.sig) → Buf (Elt Ideal) ℓ) (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_v140) = KernelArrays.outArray (RefArrays.ins m c)
      ∧ r.2.mem ((c.tc : Thread Cert.ReferenceIdeal.nD Cert.ReferenceIdeal.τ).loc Cert.ReferenceIdeal.main_v131) = KernelArrays.massArray (RefArrays.ins m c)
      ∧ r.2.mem ((c.tc : Thread Cert.ReferenceIdeal.nD Cert.ReferenceIdeal.τ).loc Cert.ReferenceIdeal.main_v141) = KernelArrays.codesArray (RefArrays.ins m c)
      ∧ r.2.mem ((c.tc : Thread Cert.ReferenceIdeal.nD Cert.ReferenceIdeal.τ).loc Cert.ReferenceIdeal.main_v142) = KernelArrays.scalesArray (RefArrays.ins m c)
      ∧ r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)) :=
  (θ_run _ _ _).mono (fun r h c => ⟨(h c).1.trans ((Cert.ReferenceIdeal.Read.val_main_v140_eq (Cert.ReferenceIdeal.Value.exitV m c)).trans (RefArrays.out_array m c)),
    (h c).2.1.trans ((Cert.ReferenceIdeal.Read.val_main_v131_eq (Cert.ReferenceIdeal.Value.exitV m c)).trans (RefArrays.mass_array m c)),
    (h c).2.2.1.trans ((Cert.ReferenceIdeal.Read.val_main_v141_eq (Cert.ReferenceIdeal.Value.exitV m c)).trans (RefArrays.codes_array m c)),
    (h c).2.2.2.1.trans ((Cert.ReferenceIdeal.Read.val_main_v142_eq (Cert.ReferenceIdeal.Value.exitV m c)).trans (RefArrays.scales_array m c)), (h c).2.2.2.2⟩)
    (Cert.ReferenceIdeal.Value.run m g)

/-- Kernel and reference leave the same arrays. -/
theorem algebraic : Cert.algebraic_KernelIdeal_ReferenceIdeal_pre_finite := by
  intro m g m' g' hp he
  refine ⟨fun c => KernelArrays.outArray (KernelArrays.ins m c), fun c => KernelArrays.massArray (KernelArrays.ins m c),
    fun c => KernelArrays.codesArray (KernelArrays.ins m c), fun c => KernelArrays.scalesArray (KernelArrays.ins m c),
    kernel_run m g (Finite.small m hp), ?_⟩
  refine (θ_run _ _ _).mono (fun r h c => ?_) (reference_run m' g')
  have e : RefArrays.ins m' c = KernelArrays.ins m c := inputs_eq m m' c (he c)
  have hc := h c
  rw [e] at hc
  exact hc

end Cert.Equation

end
-- ==== Proof.lean ====
/- The proof of the claims of `Defs.lean`. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.Pre_finite
public import proofs.«01_k».proof.Proof.Gen.KernelIdeal.Value
public import proofs.«01_k».proof.Proof.Gen.ReferenceIdeal.Run
public import proofs.«01_k».proof.Proof.Gen.ReferenceIdeal.Read
public import proofs.«01_k».proof.Proof.Equation
public import Idealize.ShloMosaic.Adequacy
public import Idealize.ShloMosaic.Init

@[expose] public section

noncomputable section

namespace Cert.Proof

open Idealize.ShloMosaic Idealize.SL.Sem Cert.Kernel

/-- The three programs run without fault and keep their arguments, idealizing keeps the kernel, and the kernel computes the reference's four results. -/
theorem claim : Cert.Claim := ⟨Cert.Kernel.Gen.facts, Cert.KernelIdeal.Gen.facts, Cert.ReferenceIdeal.Gen.facts, Cert.Pre_finite.Gen.facts,
  fun m ρ _ => Cert.Kernel.Gen.frame m ρ, fun m ρ _ => Cert.KernelIdeal.Gen.frame m ρ, fun m ρ _ => Cert.KernelIdeal.Gen.frame m ρ,
  fun m ρ _ => Cert.ReferenceIdeal.Gen.frame m ρ, fun m ρ _ => Cert.ReferenceIdeal.Gen.frame m ρ, trivial, Cert.Equation.algebraic⟩

end Cert.Proof

end
